-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x256 : Shape := ⟨3, ![16, 1024, 256]⟩
abbrev S8192x256 : Shape := ⟨2, ![8192, 256]⟩
abbrev S16384x256 : Shape := ⟨2, ![16384, 256]⟩
abbrev S24576x256 : Shape := ⟨2, ![24576, 256]⟩
abbrev S_ : Shape := ⟨0, ![]⟩

class Facts : Prop where
  shapeCasts_S16x1024x256_S16384x256 : S16x1024x256.ShapeCasts S16384x256
  concatenates_S16384x256_S8192x256_S24576x256_d0 : Shape.Concatenates [S16384x256, S8192x256] S24576x256 0
  bcast_S_S24576x256 : S_.BroadcastsInDim S24576x256 (![] : Fin 0 → Fin S24576x256.rank)

variable [Facts]

def fn {F : FTy → Type} [FloatOps F] (main_arg0 : FVec F S16x1024x256 .f32) (main_arg1 : FVec F S8192x256 .f32) : IVec S24576x256 1 :=
  let main_v0 : FVec F S16384x256 .f32 := shapeCast S16384x256 main_arg0 shapeCasts_S16x1024x256_S16384x256
  let main_v1 : FVec F S24576x256 .f32 := (fun a b => concatenate S24576x256 0 [⟨S16384x256, a⟩, ⟨S8192x256, b⟩] concatenates_S16384x256_S8192x256_S24576x256_d0) main_v0 main_arg1
  let main_v2 : FVec F S24576x256 .f32 := Host.absf main_v1
  let main_cst : FVec F S_ .f32 := constant S_ .f32 0x7F800000#32
  let main_v3 : FVec F S24576x256 .f32 := broadcastInDim S24576x256 ![] bcast_S_S24576x256 main_cst
  let main_v4 : IVec S24576x256 1 := cmpf .olt main_v2 main_v3
  main_v4
-- ==== Kernel.lean ====
abbrev S16x1024x256 : Shape := ⟨3, ![16, 1024, 256]⟩
abbrev S8192x256 : Shape := ⟨2, ![8192, 256]⟩
abbrev S16384x256 : Shape := ⟨2, ![16384, 256]⟩
abbrev S32x1x512 : Shape := ⟨3, ![32, 1, 512]⟩
abbrev S512x256 : Shape := ⟨2, ![512, 256]⟩
abbrev S1x1x512 : Shape := ⟨3, ![1, 1, 512]⟩
abbrev S8192x128 : Shape := ⟨2, ![8192, 128]⟩
abbrev S8192 : Shape := ⟨1, ![8192]⟩
abbrev S8192x1 : Shape := ⟨2, ![8192, 1]⟩
abbrev S8192x512 : Shape := ⟨2, ![8192, 512]⟩
abbrev S16x128 : Shape := ⟨2, ![16, 128]⟩
abbrev S8x128 : Shape := ⟨2, ![8, 128]⟩
abbrev S1x128 : Shape := ⟨2, ![1, 128]⟩
abbrev S1x512 : Shape := ⟨2, ![1, 512]⟩
abbrev S16x1024 : Shape := ⟨2, ![16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16384x256, .f32⟩
  | .hbm, ⟨3, _⟩ => ⟨S32x1x512, .i32⟩
  | .hbm, ⟨4, _⟩ => ⟨S16x1024, .i32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S1x1x512, .i32⟩
  | .local _ .vmem, ⟨4, _⟩ => ⟨S1x1x512, .i32⟩
  | .local _ .vmem, ⟨5, _⟩ => ⟨S8192x256, .bf16⟩
  | .local _ .vmem, ⟨6, _⟩ => ⟨S8192x128, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x1024x256 : Shape := ⟨3, ![16, 1024, 256]⟩
abbrev S8192x256 : Shape := ⟨2, ![8192, 256]⟩
abbrev S_ : Shape := ⟨0, ![]⟩
abbrev S16x1024 : Shape := ⟨2, ![16, 1024]⟩
abbrev S16x1024x1 : Shape := ⟨3, ![16, 1024, 1]⟩
abbrev S8192 : Shape := ⟨1, ![8192]⟩
abbrev S16x1024x8192 : Shape := ⟨3, ![16, 1024, 8192]⟩
abbrev S1x1x8192 : Shape := ⟨3, ![1, 1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16x1024x256, .f32⟩
  | .hbm, ⟨3, _⟩ => ⟨S_, .f32⟩
  | .hbm, ⟨4, _⟩ => ⟨S16x1024, .f32⟩
  | .hbm, ⟨5, _⟩ => ⟨S16x1024x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S16x1024x8192, .f32⟩
  | .hbm, ⟨10, _⟩ => ⟨S1x1x8192, .f32⟩
  | .hbm, ⟨11, _⟩ => ⟨S16x1024x8192, .f32⟩
  | .hbm, ⟨12, _⟩ => ⟨S16x1024x8192, .f32⟩
  | .hbm, ⟨13, _⟩ => ⟨S16x1024x8192, .f32⟩
  | .hbm, ⟨14, _⟩ => ⟨S_, .f32⟩
  | .hbm, ⟨15, _⟩ => ⟨S16x1024x8192, .f32⟩
  | .hbm, ⟨16, _⟩ => ⟨S16x1024x8192, .f32⟩
  | .hbm, ⟨17, _⟩ => ⟨S16x1024x8192, .f32⟩
  | .hbm, ⟨18, _⟩ => ⟨S_, .f32⟩
  | .hbm, ⟨19, _⟩ => ⟨S_, .f32⟩
  | .hbm, ⟨20, _⟩ => ⟨S16x1024x8192, .f32⟩
  | .hbm, ⟨21, _⟩ => ⟨S16x1024x8192, .f32⟩
  | .hbm, ⟨22, _⟩ => ⟨S16x1024x8192, .f32⟩
  | .hbm, ⟨23, _⟩ => ⟨S16x1024x8192, .i32⟩
  | .hbm, ⟨24, _⟩ => ⟨S_, .f32⟩
  | .hbm, ⟨25, _⟩ => ⟨S_, .i32⟩
  | .hbm, ⟨26, _⟩ => ⟨S16x1024, .f32⟩
  | .hbm, ⟨27, _⟩ => ⟨S16x1024, .i32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.RefRun.lean ====
/- The reference's run: its @main as the list of its host operations, and what every run of it ends with. -/
module

public import proofs.«01_k».proof.Proof.Gen.ReferenceIdeal
public import Idealize.ShloMosaic.Lib.StableHlo.Run
public import Idealize.ShloMosaic.Lib.Quiescent
public import Idealize.ShloMosaic.Adequacy

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, those of the two functions it calls in the calls' places. -/
abbrev ops : List (HloOp τ sig (Elt F)) :=
  [ binary main_arg0 main_arg0 main_v0 (mulf : (⟨S16x1024x256, .f32⟩ : BufTy).Contents (Elt F) → (⟨S16x1024x256, .f32⟩ : BufTy).Contents (Elt F) → (⟨S16x1024x256, .f32⟩ : BufTy).Contents (Elt F)),
    nullary main_cst (constant S_ .f32 0x00000000#32),
    binary main_v0 main_cst main_v1 ((fun x v => Host.reduceAdd x v reducesTo_S16x1024x256_S16x1024_d2 h_S_) : (⟨S16x1024x256, .f32⟩ : BufTy).Contents (Elt F) → (⟨S_, .f32⟩ : BufTy).Contents (Elt F) → (⟨S16x1024, .f32⟩ : BufTy).Contents (Elt F)),
    unary main_v1 main_v2 (broadcastInDim S16x1024x1 ![0, 1] bcast_S16x1024_S16x1024x1_0_1 : (⟨S16x1024, .f32⟩ : BufTy).Contents (Elt F) → (⟨S16x1024x1, .f32⟩ : BufTy).Contents (Elt F)),
    binary main_arg1 main_arg1 main_v3 (mulf : (⟨S8192x256, .f32⟩ : BufTy).Contents (Elt F) → (⟨S8192x256, .f32⟩ : BufTy).Contents (Elt F) → (⟨S8192x256, .f32⟩ : BufTy).Contents (Elt F)),
    nullary main_cst_0 (constant S_ .f32 0x00000000#32),
    binary main_v3 main_cst_0 main_v4 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    binary main_arg0 main_arg1 main_v5 ((fun l r => Host.dotGeneral dot_S16x1024x256_S8192x256_S16x1024x8192_2_1_01_0_n_n none l r) : (⟨S16x1024x256, .f32⟩ : BufTy).Contents (Elt F) → (⟨S8192x256, .f32⟩ : BufTy).Contents (Elt F) → (⟨S16x1024x8192, .f32⟩ : BufTy).Contents (Elt F)),
    unary main_v4 main_v6 (broadcastInDim S1x1x8192 ![2] bcast_S8192_S1x1x8192_2 : (⟨S8192, .f32⟩ : BufTy).Contents (Elt F) → (⟨S1x1x8192, .f32⟩ : BufTy).Contents (Elt F)),
    unary main_v2 main_v7 (broadcastInDim S16x1024x8192 ![0, 1, 2] bcast_S16x1024x1_S16x1024x8192_0_1_2 : (⟨S16x1024x1, .f32⟩ : BufTy).Contents (Elt F) → (⟨S16x1024x8192, .f32⟩ : BufTy).Contents (Elt F)),
    unary main_v6 main_v8 (broadcastInDim S16x1024x8192 ![0, 1, 2] bcast_S1x1x8192_S16x1024x8192_0_1_2 : (⟨S1x1x8192, .f32⟩ : BufTy).Contents (Elt F) → (⟨S16x1024x8192, .f32⟩ : BufTy).Contents (Elt F)),
    binary main_v7 main_v8 main_v9 (addf : (⟨S16x1024x8192, .f32⟩ : BufTy).Contents (Elt F) → (⟨S16x1024x8192, .f32⟩ : BufTy).Contents (Elt F) → (⟨S16x1024x8192, .f32⟩ : BufTy).Contents (Elt F)),
    nullary main_cst_1 (constant S_ .f32 0x40000000#32),
    unary main_cst_1 main_v10 (broadcastInDim S16x1024x8192 ![] bcast_S_S16x1024x8192 : (⟨S_, .f32⟩ : BufTy).Contents (Elt F) → (⟨S16x1024x8192, .f32⟩ : BufTy).Contents (Elt F)),
    binary main_v10 main_v5 main_v11 (mulf : (⟨S16x1024x8192, .f32⟩ : BufTy).Contents (Elt F) → (⟨S16x1024x8192, .f32⟩ : BufTy).Contents (Elt F) → (⟨S16x1024x8192, .f32⟩ : BufTy).Contents (Elt F)),
    binary main_v9 main_v11 main_v12 (subf : (⟨S16x1024x8192, .f32⟩ : BufTy).Contents (Elt F) → (⟨S16x1024x8192, .f32⟩ : BufTy).Contents (Elt F) → (⟨S16x1024x8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S16x1024x8192, .f32⟩) main_call0_v1) (broadcastInDim S16x1024x8192 ![] bcast_S_S16x1024x8192),
    TRef.binary (TRef.of (T := ⟨S16x1024x8192, .f32⟩) main_call0_v1) (TRef.of (T := ⟨S16x1024x8192, .f32⟩) main_v12) (TRef.of (T := ⟨S16x1024x8192, .f32⟩) main_v13) maximumf,
    unary main_v13 main_v14 (Host.sqrt : (⟨S16x1024x8192, .f32⟩ : BufTy).Contents (Elt F) → (⟨S16x1024x8192, .f32⟩ : BufTy).Contents (Elt F)),
    TRef.nullary (TRef.of (T := ⟨S16x1024x8192, .i32⟩) main_call1_v0) (iotaInDim S16x1024x8192 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S16x1024x8192, .f32⟩) main_v14) (TRef.of (T := ⟨S16x1024x8192, .i32⟩) main_call1_v0) (TRef.of (T := ⟨S_, .f32⟩) main_call1_cst) (TRef.of (T := ⟨S_, .i32⟩) main_call1_c) (TRef.of (T := ⟨S16x1024, .f32⟩) main_call1_v1_0) (fun x y u v j => (Host.argReduce reducer_argmin_f32_i32 x y u v reducesTo_S16x1024x8192_S16x1024_d2 h_S_ j).1),
    TRef.quaternary (TRef.of (T := ⟨S16x1024x8192, .f32⟩) main_v14) (TRef.of (T := ⟨S16x1024x8192, .i32⟩) main_call1_v0) (TRef.of (T := ⟨S_, .f32⟩) main_call1_cst) (TRef.of (T := ⟨S_, .i32⟩) main_call1_c) (TRef.of (T := ⟨S16x1024, .i32⟩) main_v15) (fun x y u v j => (Host.argReduce reducer_argmin_f32_i32 x y u v reducesTo_S16x1024x8192_S16x1024_d2 h_S_ j).2) ]

/-- The distances the reference takes its arg-min of: at (b, t, c), the square root of the clipped
    squared distance of row (b, t) of `x` to row `c` of `y`. -/
def dists (x : FVec F S16x1024x256 .f32) (y : FVec F S8192x256 .f32) : FVec F S16x1024x8192 .f32 :=
  Host.sqrt (maximumf (broadcastInDim S16x1024x8192 ![] bcast_S_S16x1024x8192 (id (constant S_ .f32 0x00000000#32))) (subf (addf (broadcastInDim S16x1024x8192 ![0, 1, 2] bcast_S16x1024x1_S16x1024x8192_0_1_2 (broadcastInDim S16x1024x1 ![0, 1] bcast_S16x1024_S16x1024x1_0_1 (Host.reduceAdd (mulf x x) (constant S_ .f32 0x00000000#32) reducesTo_S16x1024x256_S16x1024_d2 h_S_))) (broadcastInDim S16x1024x8192 ![0, 1, 2] bcast_S1x1x8192_S16x1024x8192_0_1_2 (broadcastInDim S1x1x8192 ![2] bcast_S8192_S1x1x8192_2 (Host.reduceAdd (mulf y y) (constant S_ .f32 0x00000000#32) reducesTo_S8192x256_S8192_d1 h_S_)))) (mulf (broadcastInDim S16x1024x8192 ![] bcast_S_S16x1024x8192 (constant S_ .f32 0x40000000#32)) (Host.dotGeneral dot_S16x1024x256_S8192x256_S16x1024x8192_2_1_01_0_n_n none x y))))

/-- The reference's result: at each row the index the arg-min reduction of its distances keeps. -/
def result (x : FVec F S16x1024x256 .f32) (y : FVec F S8192x256 .f32) : IVec S16x1024 32 := fun j =>
  (Host.argReduce reducer_argmin_f32_i32 (dists x y) (iotaInDim S16x1024x8192 32 2) (constant S_ .f32 0x7F800000#32)
    (constantI S_ 32 0#32) reducesTo_S16x1024x8192_S16x1024_d2 h_S_ j).2

/-- @main is its operations run in order. -/
theorem main_eq (c : Dev nD) : main (F := F) c = seq ops := rfl
/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide
/-- Every operation names the TensorCore's buffers alone. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., nullary_bufs_sub .., nullary_bufs_sub .., nullary_bufs_sub .., quaternary_bufs_sub .., quaternary_bufs_sub ..⟩

set_option maxHeartbeats 2000000 in
/-- Every weakly fair run of the reference ends with its result buffer at `result` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by
        simp only [ops, TRef.nullary, TRef.quaternary, TRef.binary, TRef.unary, TRef.toBuf, TRef.ofBuf, cast_eq]; after_results; rfl),
      (h c main_arg0).trans (by simp only [ops, TRef.nullary, TRef.quaternary, TRef.binary, TRef.unary, TRef.toBuf, TRef.ofBuf, cast_eq]; after_results),
      (h c main_arg1).trans (by simp only [ops, TRef.nullary, TRef.quaternary, TRef.binary, TRef.unary, TRef.toBuf, TRef.ofBuf, cast_eq]; after_results)⟩)
    (run_seq scopedRefs_eq scopedSems_eq defs main (fun _ => ops) main_eq (fun _ => ops_sub) m ρ)

/-- The reference's frame: the arguments end unchanged, and it has no semaphore to leave raised. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.Ref

end
-- ==== Proof.KernelBody.lean ====
module
public import proofs.«01_k».proof.Proof.Gen.KernelIdeal.Frame
@[expose] public section

/-!
# What one grid point of the kernel computes, as a recursion

The body scores all 8192 centroids against 512 rows at once (an 8192×512 array of products `d`), and sweeps the centroids
in 512 chunks of 16, for four tiles of 128 rows each, keeping per position the least score seen and the chunk it was seen
in.  Then each tile's 16 rows are folded to one.  Here the sweep is a recursion over the chunk, and the fold a function of
its two results.
-/

namespace Cert.Body
open Idealize.ShloMosaic Idealize.ShloMosaic.TcCoe Idealize.SL.Sem Cert.KernelIdeal Cert.KernelIdeal.Gen

variable {F : FTy → Type} [FloatOps F]

/-- Chunk `j` of tile `t` lies in the array of products. -/
theorem slices_chunk (t j : ℕ) : S8192x512.Slices ![16 * (j % 512), 128 * (t % 4)] S16x128 :=
  ⟨rfl, fun a => by
    match a with
    | ⟨0, _⟩ => show 16 * (j % 512) + 16 ≤ 8192; omega
    | ⟨1, _⟩ => show 128 * (t % 4) + 128 ≤ 512; omega⟩

/-- Chunk `j` lies in the array of squared norms. -/
theorem inb_chunk (j : ℕ) : ∀ a, (![16 * (j % 512), 0] : Fin 2 → Nat) a + S16x128.size a ≤ S8192x128.size a := fun a => by
  match a with
  | ⟨0, _⟩ => show 16 * (j % 512) + 16 ≤ 8192; omega
  | ⟨1, _⟩ => show 0 + 128 ≤ 128; omega

/-- The scores of chunk `j` in tile `t`: the products plus the squared norms `L j`. -/
def score (d : FVec F S8192x512 .f32) (L : ℕ → Vec F S16x128 .f32) (t j : ℕ) : FVec F S16x128 .f32 :=
  addf (extractStridedSlice S16x128 ![16 * (j % 512), 128 * (t % 4)] d (slices_chunk t j)) (L j)

/-- The least score of the chunks up to `j`, per position. -/
def least (d : FVec F S8192x512 .f32) (L : ℕ → Vec F S16x128 .f32) (t j : ℕ) : FVec F S16x128 .f32 :=
  Nat.rec (score d L t 0)
    (fun j v => select (cmpf .olt (score d L t (j + 1)) v) (score d L t (j + 1)) v) j

/-- The chunk in which the least score was first seen, per position. -/
def chunk (d : FVec F S8192x512 .f32) (L : ℕ → Vec F S16x128 .f32) (t j : ℕ) : IVec S16x128 32 :=
  Nat.rec (broadcast S16x128 0#32)
    (fun j i => select (cmpf .olt (score d L t (j + 1)) (least d L t j)) (broadcast S16x128 (BitVec.ofNat 32 (j + 1))) i) j

/-- Where the pair `(v, i)` comes before the pair `(v', i')`: by value, and by index where the values are equal. -/
def before {s : Shape} (v v' : FVec F s .f32) (i i' : IVec s 32) : IVec s 1 :=
  ori (cmpf .olt v v') (andi (cmpf .oeq v v') (cmpi .slt i i'))

/-- The earlier of two pairs, its value. -/
def minV {s : Shape} (v v' : FVec F s .f32) (i i' : IVec s 32) : FVec F s .f32 := select (before v v' i i') v v'

/-- The earlier of two pairs, its index. -/
def minI {s : Shape} (v v' : FVec F s .f32) (i i' : IVec s 32) : IVec s 32 := select (before v v' i i') i i'

/-- The index of a position's least score, from its chunk: sixteen times the chunk plus the position's row. -/
def index (i : IVec S16x128 32) : IVec S16x128 32 :=
  addi (muli i (broadcast S16x128 16#32)) (iota .tc S16x128 32 [0] iota_S16x128_d0_w32)

/-- The lower half against the upper half, values. -/
def halfV (v : FVec F S16x128 .f32) (i : IVec S16x128 32) : FVec F S8x128 .f32 :=
  minV (extractStridedSlice S8x128 ![8, 0] v slices_S16x128_o8_0_S8x128)
    (extractStridedSlice S8x128 ![0, 0] v slices_S16x128_o0_0_S8x128)
    (extractStridedSlice S8x128 ![8, 0] i slices_S16x128_o8_0_S8x128)
    (extractStridedSlice S8x128 ![0, 0] i slices_S16x128_o0_0_S8x128)

/-- The lower half against the upper half, indices. -/
def halfI (v : FVec F S16x128 .f32) (i : IVec S16x128 32) : IVec S8x128 32 :=
  minI (extractStridedSlice S8x128 ![8, 0] v slices_S16x128_o8_0_S8x128)
    (extractStridedSlice S8x128 ![0, 0] v slices_S16x128_o0_0_S8x128)
    (extractStridedSlice S8x128 ![8, 0] i slices_S16x128_o8_0_S8x128)
    (extractStridedSlice S8x128 ![0, 0] i slices_S16x128_o0_0_S8x128)

/-- Eight rows against themselves rotated by `n`, values. -/
def rollV (n : BitVec 32) (v : FVec F S8x128 .f32) (i : IVec S8x128 32) : FVec F S8x128 .f32 :=
  minV (dynamicRotate 0 n none v rotates_S8x128_d0) v (dynamicRotate 0 n none i rotates_S8x128_d0) i

/-- Eight rows against themselves rotated by `n`, indices. -/
def rollI (n : BitVec 32) (v : FVec F S8x128 .f32) (i : IVec S8x128 32) : IVec S8x128 32 :=
  minI (dynamicRotate 0 n none v rotates_S8x128_d0) v (dynamicRotate 0 n none i rotates_S8x128_d0) i

/-- Three rolls, values after the first two and indices after all three. -/
def rolls (v : FVec F S8x128 .f32) (i : IVec S8x128 32) : IVec S8x128 32 :=
  rollI 4#32 (rollV 2#32 (rollV 1#32 v i) (rollI 1#32 v i)) (rollI 2#32 (rollV 1#32 v i) (rollI 1#32 v i))

/-- One tile's 16 rows folded to one. -/
def fold (v : FVec F S16x128 .f32) (i : IVec S16x128 32) : IVec S1x128 32 :=
  extractStridedSlice S1x128 ![0, 0] (rolls (halfV v (index i)) (halfI v (index i))) slices_S8x128_o0_0_S1x128

/-- The grid point's result: the four tiles side by side. -/
def point (d : FVec F S8192x512 .f32) (L : ℕ → Vec F S16x128 .f32) : IVec S1x1x512 32 :=
  shapeCast S1x1x512 (concatenate S1x512 1
    [⟨S1x128, fold (least d L 0 511) (chunk d L 0 511)⟩, ⟨S1x128, fold (least d L 1 511) (chunk d L 1 511)⟩,
      ⟨S1x128, fold (least d L 2 511) (chunk d L 2 511)⟩, ⟨S1x128, fold (least d L 3 511) (chunk d L 3 511)⟩]
    concatenates_S1x128_S1x128_S1x128_S1x128_S1x512_d1) shapeCasts_S1x512_S1x1x512

set_option maxRecDepth 65536 in
/-- At a later grid point the body stores `point` of its products and of the norms it loads. -/
theorem run_B (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : ¬cond0_0 i)
    (x0 : Vec F S512x256 .f32) (x1 : Vec F S8192x256 .f32) (xs0 : Vec F S8192x256 .bf16) (xs1 : Vec F S8192x128 .f32) :
    (kernelRun0_B c i arg1 harg1 arg2 harg2 arg3 harg3 arg4 harg4 arg5 harg5 hc0 x0 x1 xs0 xs1).1 =
      [⟨Rect.unit ![0,0,0] S1x1x512.size inb_S1x1x512_S1x1x512_0_0_0,
        point (kernelRun0_B.sl.r c arg1 harg1 arg4 harg4 x0 xs0)
          (fun j => View.readAt (Elt F) arg5.view (Rect.unit (s := S8192x128) ![16 * (j % 512), 0] S16x128.size (inb_chunk j)).toLoadRect (harg5.unread xs1))⟩] := by
  sl_kernel_rfl

set_option maxRecDepth 65536 in
/-- At the first grid point the body stores `point` of its products and of the norms it has just written. -/
theorem run_A (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : cond0_0 i)
    (x0 : Vec F S512x256 .f32) (x1 : Vec F S8192x256 .f32) :
    (kernelRun0_A c i arg1 harg1 arg2 harg2 arg3 harg3 arg4 harg4 arg5 harg5 hc0 x0 x1).1 =
      [⟨Rect.unit ![0,0,0] S1x1x512.size inb_S1x1x512_S1x1x512_0_0_0,
        point (kernelRun0_A.sl.r c arg1 harg1 arg2 harg2 arg4 x0 x1)
          (fun j => arg5.view.readCov (kernelRun0_A.sl.HS1_1 c arg2 harg2 x1)
            (Rect.unit (s := S8192x128) ![16 * (j % 512), 0] S16x128.size (inb_chunk j)).toLoadRect)⟩] := by
  sl_kernel_rfl

end Cert.Body
-- ==== Proof.Points.lean ====
module
public import proofs.«01_k».proof.Proof.KernelBody
public import Idealize.ShloMosaic.Lib.VecWindow
public import Idealize.ShloMosaic.Lib.WholeRead
@[expose] public section

noncomputable section

/-!
# What each grid point leaves in its output block and in the two scratch arrays

The first point fills the scratch arrays (scaled centroids, squared norms) and the later points read them as they are.
-/

namespace Cert.Body
open Idealize.ShloMosaic Idealize.ShloMosaic.TcCoe Idealize.SL.Sem Cert.KernelIdeal Cert.KernelIdeal.Gen

variable {F : FTy → Type} [FloatOps F]

/-- Chunk `j` of the array of squared norms. -/
def norms (x : Vec F S8192x128 .f32) (j : ℕ) : Vec F S16x128 .f32 := fun y =>
  x ((Rect.unit (s := S8192x128) ![16 * (j % 512), 0] S16x128.size (inb_chunk j)).toLoadRect.idx y)

/-- A load of a whole buffer holding `X` gives `X`. -/
theorem readAt_unread_full {κ : Kind} {sp : Space} {s : Shape} {e : EltTy} {M : Memref sig κ sp s e} (h : M.IsWhole)
    (X : Vec F s e) {off : Fin s.rank → ℕ} (inb : ∀ a, off a + s.size a ≤ s.size a) :
    View.readAt (Elt F) M.view (Rect.unit off s.size inb).toLoadRect (h.unread X) = X := by
  funext x
  exact (h.readAt_unread X _ x).trans (congrArg X (Rect.emb_unit_full inb x))

/-- At a later point the output block holds `point` of the point's rows against the scratch arrays. -/
theorem out_B (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : ¬cond0_0 i)
    (x0 : Vec F S512x256 .f32) (x1 : Vec F S8192x256 .f32) (xs0 : Vec F S8192x256 .bf16) (xs1 : Vec F S8192x128 .f32) :
    out0_B_2 c i arg1 harg1 arg2 harg2 arg3 harg3 arg4 harg4 arg5 harg5 hc0 x0 x1 xs0 xs1 = point (k0_pay3 x0 xs0) (norms xs1) := by
  unfold out0_B_2
  rw [run_B]
  refine (View.read_writes_full _ _ _ _ _).trans ?_
  have h1 : kernelRun0_B.sl.r c arg1 harg1 arg4 harg4 x0 xs0 = k0_pay3 x0 xs0 := by
    unfold kernelRun0_B.sl.r
    rw [readAt_unread_full, readAt_unread_full]
  rw [h1]
  refine congrArg (point _) (funext fun j => funext fun y => ?_)
  exact harg5.readAt_unread xs1 _ y

/-- At the first point scratch 0 is left holding the scaled centroids. -/
theorem scratch_A_0 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : cond0_0 i)
    (x0 : Vec F S512x256 .f32) (x1 : Vec F S8192x256 .f32) :
    sout0_A_0 c i arg1 harg1 arg2 harg2 arg3 harg3 arg4 harg4 arg5 harg5 hc0 x0 x1 = k0_pay1 x1 := by
  unfold sout0_A_0
  refine (View.read_writes_full (Val := Elt F) _ _ _ _ _).trans ?_
  rw [readAt_unread_full]

/-- At the first point scratch 1 is left holding the squared norms. -/
theorem scratch_A_1 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : cond0_0 i)
    (x0 : Vec F S512x256 .f32) (x1 : Vec F S8192x256 .f32) :
    sout0_A_1 c i arg1 harg1 arg2 harg2 arg3 harg3 arg4 harg4 arg5 harg5 hc0 x0 x1 = k0_pay2 x1 := by
  unfold sout0_A_1
  refine (View.read_writes_full (Val := Elt F) _ _ _ _ _).trans ?_
  rw [readAt_unread_full]

/-- At the first point the output block holds `point` of the point's rows against what it has put in the scratch arrays. -/
theorem out_A (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S1x1x512 .i32) (harg3 : arg3.IsWhole) (arg4 : Memref sig .tc .vmem S8192x256 .bf16) (harg4 : arg4.IsWhole) (arg5 : Memref sig .tc .vmem S8192x128 .f32) (harg5 : arg5.IsWhole) (hc0 : cond0_0 i)
    (x0 : Vec F S512x256 .f32) (x1 : Vec F S8192x256 .f32) :
    out0_A_2 c i arg1 harg1 arg2 harg2 arg3 harg3 arg4 harg4 arg5 harg5 hc0 x0 x1
      = point (k0_pay3 x0 (k0_pay1 x1)) (norms (k0_pay2 x1)) := by
  unfold out0_A_2
  rw [run_A]
  refine (View.read_writes_full _ _ _ _ _).trans ?_
  have h1 : kernelRun0_A.sl.r c arg1 harg1 arg2 harg2 arg4 x0 x1 = k0_pay3 x0 (k0_pay1 x1) := by
    unfold kernelRun0_A.sl.r kernelRun0_A.sl.v6 kernelRun0_A.sl.HS0_1
    rw [readAt_unread_full, readAt_unread_full]
    exact congrArg (k0_pay3 x0) (View.readCov_full _ _ _ _ _)
  rw [h1]
  refine congrArg (point _) (funext fun j => funext fun y => ?_)
  unfold kernelRun0_A.sl.HS1_1
  rw [readAt_unread_full]
  exact congrFun (View.read_writes_full (Val := Elt F) arg5.view _ inb_S8192x128_S8192x128_0_0 (k0_pay2 x1) []) _

variable (m : (ℓ : Loc nD τ sig) → Buf (Elt F) ℓ)

/-- After every point: the output block is `point` of the point's rows, and the scratch arrays hold what the first point
put there. -/
theorem outs (c : Dev nD) (C : Vec F S8192x256 .f32) (hC : ∀ t : Fin cfg0.N, iblk m c 1 t = C) :
    ∀ (n : ℕ) (hn : n < cfg0.N), outsAt0 m c n hn
      = (point (k0_pay3 (iblk m c 0 ⟨n, hn⟩) (k0_pay1 C)) (norms (k0_pay2 C)), k0_pay1 C, k0_pay2 C) := by
  intro n
  induction n with
  | zero =>
    intro hn
    rw [outsAt0_A m c ⟨0, hn⟩ (Nat.zero_mod _)]
    rw [out_A, scratch_A_0, scratch_A_1, hC]
  | succ n ih =>
    intro hn
    have hN : cfg0.N = 32 := N_0
    have h0 : ¬(n + 1) % 32 = 0 := by omega
    rw [outsAt0_B m c ⟨n + 1, hn⟩ h0]
    dsimp only
    have e := ih (Nat.lt_of_succ_lt hn)
    rw [out_B]
    unfold sout0_B_0 sout0_B_1
    simp only [Nat.add_sub_cancel, e]

end Cert.Body
-- ==== Proof.Output.lean ====
module
public import proofs.«01_k».proof.Proof.Points
public import Idealize.ShloMosaic.Lib.Pipeline.Value
public import Idealize.ShloMosaic.Lib.ValueIdx
@[expose] public section

noncomputable section

/-!
# The kernel's result array

Grid point `t` works on rows `512 t` to `512 t + 511` of the flattened input and writes block `t` of a 32×1×512 array,
which is then reshaped to 16×1024.
-/

namespace Cert.Body
open Idealize.ShloMosaic Idealize.ShloMosaic.TcCoe Idealize.SL.Sem Cert.KernelIdeal Cert.KernelIdeal.Gen
open Idealize.ShloMosaic.ValueIdx
open Idealize.ShloMosaic.Pipeline (Dat)

variable {F : FTy → Type} [FloatOps F]

/-- Rows `512 t` to `512 t + 511` of the input, its two leading axes flattened. -/
def rows (x : FVec F S16x1024x256 .f32) (t : ℕ) : Vec F S512x256 .f32 := fun y =>
  x (ix3 ⟨(512 * (t % 32) + (y 0).val) / 1024, by have : (y 0).val < 512 := (y 0).isLt; omega⟩
    ⟨(512 * (t % 32) + (y 0).val) % 1024, by omega⟩ (y 1))

/-- The kernel's result as a function of its arguments. -/
def kresult (x : FVec F S16x1024x256 .f32) (y : FVec F S8192x256 .f32) : IVec S16x1024 32 := fun j =>
  point (k0_pay3 (rows x (2 * (j 0).val + (j 1).val / 512)) (k0_pay1 y)) (norms (k0_pay2 y)) (ix3 0 0 ⟨(j 1).val % 512, by omega⟩)

variable (m : (ℓ : Loc nD τ sig) → Buf (Elt F) ℓ) (ρ : Dev nD → PrngReg)

/-- The pipeline finds the flattened input in its first array. -/
theorem V_input (c : Dev nD) : V m c main_v0 = shapeCast S16384x256 (m ((c : Thread nD τ).loc main_arg0)) shapeCasts_S16x1024x256_S16384x256 := by
  show StableHlo.after [StableHlo.reshape main_arg0 main_v0 rfl shapeCasts_S16x1024x256_S16384x256] (fun b => m (c, b)) (Proc.devRef .tc main_v0) = _
  after_results
  rfl

/-- The block positions over the grid. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_2.flush t = true :=
  (by decide +kernel : ∀ t : Fin grid0.N, _)

/-- The first window's block at point `t` is the point's rows of the input. -/
theorem block_input (c : Dev nD) (t : Fin cfg0.N) : iblk m c 0 t = rows (m ((c : Thread nD τ).loc main_arg0)) t.val := by
  have hN : cfg0.N = 32 := N_0
  obtain ⟨e0, e1, -⟩ := index_facts t
  funext y
  have hy : (y 0).val < 512 := (y 0).isLt
  have hb0 : (((cfg0.win 0).blk t).view.emb y 0).val = win0_0.index t (0 : Fin 2) * 512 + 1 * (y 0).val := rfl
  have hb1 : (((cfg0.win 0).blk t).view.emb y 1).val = win0_0.index t (1 : Fin 2) * 256 + 1 * (y 1).val := rfl
  show V m c main_v0 (((cfg0.win 0).blk t).view.emb y) = _
  rw [V_input]
  refine shapeCast_apply (s := S16x1024x256) (t := S16384x256) _ _ _ _ ?_
  refine (Shape.rowMajor_val_three (d := ![16, 1024, 256]) _).trans (Eq.trans ?_ (Shape.rowMajor_val_two (d := ![16384, 256]) _).symm)
  show ((512 * (t.val % 32) + (y 0).val) / 1024 * 1024 + (512 * (t.val % 32) + (y 0).val) % 1024) * 256 + (y 1).val
    = (((cfg0.win 0).blk t).view.emb y 0).val * 256 + (((cfg0.win 0).blk t).view.emb y 1).val
  rw [hb0, hb1, e0, e1]
  have := t.isLt
  omega

/-- The second window's block is the whole of the centroids at every point. -/
theorem block_centroids (c : Dev nD) (t : Fin cfg0.N) : iblk m c 1 t = m ((c : Thread nD τ).loc main_arg1) := by
  obtain ⟨-, -, e0, e1, -⟩ := index_facts t
  funext y
  have hb0 : (((cfg0.win 1).blk t).view.emb y 0).val = win0_1.index t (0 : Fin 2) * 8192 + 1 * (y 0).val := rfl
  have hb1 : (((cfg0.win 1).blk t).view.emb y 1).val = win0_1.index t (1 : Fin 2) * 256 + 1 * (y 1).val := rfl
  show V m c main_arg1 (((cfg0.win 1).blk t).view.emb y) = _
  rw [V_main_arg1]
  refine congrArg _ (funext fun a => Fin.ext ?_)
  match a with
  | ⟨0, _⟩ => show (((cfg0.win 1).blk t).view.emb y 0).val = (y 0).val; rw [hb0, e0]; omega
  | ⟨1, _⟩ => show (((cfg0.win 1).blk t).view.emb y 1).val = (y 1).val; rw [hb1, e1]; omega

/-- Two points' output blocks share no index. -/
theorem disjoint_blocks : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    rw [← (index_facts t).2.2.2.2.1, ← (index_facts t').2.2.2.2.1]
    exact congrFun h (0 : Fin 3)))

/-- The output array after the last point: row `t` holds `point` of the point's rows. -/
theorem array (c : Dev nD) (t : Fin cfg0.N) (i : S32x1x512.Idx) (hi : (i 0).val = t.val) :
    (dats m 0 c).arrAt 2 cfg0.N i
      = point (k0_pay3 (rows (m ((c : Thread nD τ).loc main_arg0)) t.val) (k0_pay1 (m ((c : Thread nD τ).loc main_arg1))))
          (norms (k0_pay2 (m ((c : Thread nD τ).loc main_arg1)))) (ix3 0 0 (i 2)) := by
  obtain ⟨-, -, -, -, e0, e1, e2, hf⟩ := index_facts t
  have h := congrFun ((dats m 0 c).read_blk_arrAt_eq_flushed 2 disjoint_blocks cfg0.N t t.isLt hf) (ix3 0 0 (i 2))
  have hL : ((cfg0.win 2).blk t).view.emb (ix3 0 0 (i 2)) = i := by
    have hb0 : (((cfg0.win 2).blk t).view.emb (ix3 0 0 (i 2)) 0).val = win0_2.index t (0 : Fin 3) * 1 + 1 * 0 := rfl
    have hb1 : (((cfg0.win 2).blk t).view.emb (ix3 0 0 (i 2)) 1).val = win0_2.index t (1 : Fin 3) * 1 + 1 * 0 := rfl
    have hb2 : (((cfg0.win 2).blk t).view.emb (ix3 0 0 (i 2)) 2).val = win0_2.index t (2 : Fin 3) * 512 + 1 * (i 2).val := rfl
    have hi1 : (i 1).val < 1 := (i 1).isLt
    funext a; apply Fin.ext
    match a with
    | ⟨0, _⟩ => show (((cfg0.win 2).blk t).view.emb (ix3 0 0 (i 2)) 0).val = (i 0).val; rw [hb0, e0]; omega
    | ⟨1, _⟩ => show (((cfg0.win 2).blk t).view.emb (ix3 0 0 (i 2)) 1).val = (i 1).val; rw [hb1, e1]; omega
    | ⟨2, _⟩ => show (((cfg0.win 2).blk t).view.emb (ix3 0 0 (i 2)) 2).val = (i 2).val; rw [hb2, e2]; omega
  have hR : (cfg0.win 2).xinj (grid0.coords t) (ix3 0 0 (i 2)) = ix3 0 0 (i 2) := by
    funext a; apply Fin.ext
    match a with
    | ⟨0, _⟩ => rfl
    | ⟨1, _⟩ => rfl
    | ⟨2, _⟩ => rfl
  have hA : (dats m 0 c).after 2 t = point (k0_pay3 (rows (m ((c : Thread nD τ).loc main_arg0)) t.val) (k0_pay1 (m ((c : Thread nD τ).loc main_arg1))))
      (norms (k0_pay2 (m ((c : Thread nD τ).loc main_arg1)))) := by
    rw [after0_2, outs m c _ (block_centroids m c), block_input]
  have h' : (dats m 0 c).arrAt 2 cfg0.N (((cfg0.win 2).blk t).view.emb (ix3 0 0 (i 2)))
      = (dats m 0 c).after 2 t ((cfg0.win 2).xinj (grid0.coords t) (ix3 0 0 (i 2))) := h
  rw [hL, hR, hA] at h'
  exact h'

/-- Every run of the kernel ends with its result buffer at `kresult` of the arguments and the arguments unchanged. -/
theorem run : θ_run defs (onTc (τ := τ) (main (F := F))) ⟨m, fun _ => 0, ρ⟩ fun r => ∀ c : Dev nD,
      r.2.mem ((c.tc : Thread nD τ).loc main_v2) = kresult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_,
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c)))⟩) (run_main m ρ)
  refine ((h c).2 main_v2 (Pipeline.mem_restRefs_of main_v2 (by decide) (by decide))).trans ?_
  have e : Pipeline.afterTail₀ cfgs (dats m) 0 (V0 m) [hostOps1] c main_v2
      = shapeCast S16x1024 ((dats m 0 c).arrAt 2 cfg0.N) shapeCasts_S32x1x512_S16x1024 := by
    have hw := Pipeline.withArrays_arr spec0 launch0.win.arr_inj c (V0 m c) (fun w => (dats m 0 c).arrAt w cfg0.N) 2
    unfold Pipeline.afterTail₀
    show StableHlo.after [StableHlo.reshape main_v1 main_v2 rfl shapeCasts_S32x1x512_S16x1024] _ (Proc.devRef .tc main_v2) = _
    after_results
    exact congrArg (fun X => shapeCast S16x1024 X shapeCasts_S32x1x512_S16x1024) hw
  rw [e]
  funext j
  have hN : cfg0.N = 32 := N_0
  have hj0 : (j 0).val < 16 := (j 0).isLt
  have hj1 : (j 1).val < 1024 := (j 1).isLt
  refine (shapeCast_apply (s := S32x1x512) (t := S16x1024) _ _ j
    (ix3 ⟨2 * (j 0).val + (j 1).val / 512, by omega⟩ 0 ⟨(j 1).val % 512, by omega⟩) ?_).trans ?_
  · refine (Shape.rowMajor_val_three (d := ![32, 1, 512]) _).trans (Eq.trans ?_ (Shape.rowMajor_val_two (d := ![16, 1024]) _).symm)
    show ((2 * (j 0).val + (j 1).val / 512) * 1 + 0) * 512 + (j 1).val % 512 = (j 0).val * 1024 + (j 1).val
    omega
  · exact array m c ⟨2 * (j 0).val + (j 1).val / 512, by omega⟩ _ rfl

end Cert.Body
-- ==== Proof.FirstMin.lean ====
module
public import Idealize.ShloMosaic.Lib.ValueIdx
@[expose] public section

/-!
# The first place where a function is least

Indices are natural numbers below 8192, held in 32-bit words.
-/

namespace Cert.FirstMin

/-- The pair `(v, w)` is the least value of `f` over the indices satisfying `P`, and the first index it is taken at. -/
def Best (f : ℕ → EReal) (P : ℕ → Prop) (v : EReal) (w : BitVec 32) : Prop :=
  ∃ c, P c ∧ c < 8192 ∧ v = f c ∧ w = BitVec.ofNat 32 c ∧ ∀ c', P c' → f c < f c' ∨ (f c = f c' ∧ c ≤ c')

/-- Words holding indices below 8192 compare, signed, as the indices do. -/
theorem slt_ofNat {a b : ℕ} (ha : a < 8192) (hb : b < 8192) :
    (BitVec.ofNat 32 a).slt (BitVec.ofNat 32 b) = true ↔ a < b := by
  have h : ∀ n, n < 8192 → (BitVec.ofNat 32 n).toInt = n := by
    intro n hn
    rw [BitVec.toInt_eq_toNat_of_lt (by rw [BitVec.toNat_ofNat]; omega), BitVec.toNat_ofNat]
    omega
  rw [BitVec.slt, decide_eq_true_eq, h a ha, h b hb]
  omega

/-- Words holding indices below 8192 are equal only where the indices are. -/
theorem ofNat_inj {a b : ℕ} (ha : a < 8192) (hb : b < 8192) (h : BitVec.ofNat 32 a = BitVec.ofNat 32 b) : a = b := by
  have := congrArg BitVec.toNat h
  rw [BitVec.toNat_ofNat, BitVec.toNat_ofNat] at this
  omega

variable {f : ℕ → EReal} {P Q R : ℕ → Prop} {v v' : EReal} {w w' : BitVec 32}

/-- The earlier of the best pairs of two sets is the best of their union. -/
theorem Best.merge (h : Best f P v w) (h' : Best f Q v' w') (hR : ∀ c, R c ↔ P c ∨ Q c) (b : Prop) [Decidable b]
    (hb : b ↔ v < v' ∨ (v = v' ∧ w.slt w' = true)) : Best f R (if b then v else v') (if b then w else w') := by
  obtain ⟨c, hc, hlt, rfl, rfl, hmin⟩ := h
  obtain ⟨c', hc', hlt', rfl, rfl, hmin'⟩ := h'
  rw [slt_ofNat hlt hlt'] at hb
  by_cases h : b
  · rw [if_pos h, if_pos h]
    refine ⟨c, (hR c).2 (Or.inl hc), hlt, rfl, rfl, fun x hx => ?_⟩
    rcases (hR x).1 hx with hx | hx
    · exact hmin x hx
    · rcases hb.1 h with hv | ⟨hv, hi⟩ <;> rcases hmin' x hx with hx | ⟨hx, hx'⟩
      · exact Or.inl (hv.trans hx)
      · exact Or.inl (hx ▸ hv)
      · exact Or.inl (hv ▸ hx)
      · exact Or.inr ⟨hv.trans hx, by omega⟩
  · rw [if_neg h, if_neg h]
    have hn : f c' < f c ∨ (f c' = f c ∧ c' ≤ c) := by
      rw [hb] at h
      rcases lt_trichotomy (f c) (f c') with h1 | h1 | h1
      · exact absurd (Or.inl h1) h
      · refine Or.inr ⟨h1.symm, ?_⟩
        by_contra h2
        exact h (Or.inr ⟨h1, by omega⟩)
      · exact Or.inl h1
    refine ⟨c', (hR c').2 (Or.inr hc'), hlt', rfl, rfl, fun x hx => ?_⟩
    rcases (hR x).1 hx with hx | hx
    · rcases hn with hv | ⟨hv, hi⟩ <;> rcases hmin x hx with hx | ⟨hx, hx'⟩
      · exact Or.inl (hv.trans hx)
      · exact Or.inl (hx ▸ hv)
      · exact Or.inl (hv ▸ hx)
      · exact Or.inr ⟨hv.trans hx, by omega⟩
    · exact hmin' x hx

/-- The best pair depends on the set only through its members. -/
theorem Best.congr (h : Best f P v w) (hR : ∀ c, c < 8192 → (R c ↔ P c)) (hlt : ∀ c, R c → c < 8192) : Best f R v w := by
  obtain ⟨c, hc, hc8, hv, hw, hmin⟩ := h
  exact ⟨c, (hR c hc8).2 hc, hc8, hv, hw, fun x hx => hmin x ((hR x (hlt x hx)).1 hx)⟩

/-- Two functions that order the indices alike have the same first least index. -/
theorem Best.unique {g : ℕ → EReal} (h : Best f P v w) (h' : Best g P v' w')
    (hfg : ∀ a b, P a → P b → (f a < f b ↔ g a < g b)) : w = w' := by
  obtain ⟨c, hc, hlt, rfl, rfl, hmin⟩ := h
  obtain ⟨c', hc', hlt', rfl, rfl, hmin'⟩ := h'
  have h1 := hmin c' hc'
  have h2 := hmin' c hc
  have e1 := hfg c c' hc hc'
  have e2 := hfg c' c hc' hc
  rw [← e2] at h2
  have : c = c' := by
    rcases h1 with h1 | ⟨h1, h1'⟩
    · have h3 : ¬f c' < f c := not_lt.2 h1.le
      rcases h2 with h2 | ⟨h2, _⟩
      · exact absurd h2 h3
      · exact absurd (e1.1 h1) (by rw [h2]; exact lt_irrefl _)
    · rcases h2 with h2 | ⟨_, h2⟩
      · exact absurd h2 (by rw [h1]; exact lt_irrefl _)
      · omega
  rw [this]

/-- The best value and its index, kept while `f` is swept upward by steps of `n`: after a step, the new value replaces the
old one only where it is less. -/
theorem sweep_step {g : ℕ → EReal} {j k : ℕ} (hk : k ≤ j) (hmin : ∀ j', j' ≤ j → g k < g j' ∨ (g k = g j' ∧ k ≤ j')) :
    ∃ k', k' ≤ j + 1 ∧ (if g (j + 1) < g k then g (j + 1) else g k) = g k'
      ∧ (if g (j + 1) < g k then BitVec.ofNat 32 (j + 1) else BitVec.ofNat 32 k) = BitVec.ofNat 32 k'
      ∧ ∀ j', j' ≤ j + 1 → g k' < g j' ∨ (g k' = g j' ∧ k' ≤ j') := by
  by_cases h : g (j + 1) < g k
  · refine ⟨j + 1, le_rfl, by rw [if_pos h], by rw [if_pos h], fun j' hj' => ?_⟩
    rcases Nat.lt_or_ge j j' with h1 | h1
    · obtain rfl : j' = j + 1 := by omega
      exact Or.inr ⟨rfl, le_rfl⟩
    · rcases hmin j' h1 with h2 | ⟨h2, _⟩
      · exact Or.inl (h.trans h2)
      · exact Or.inl (h2 ▸ h)
  · refine ⟨k, by omega, by rw [if_neg h], by rw [if_neg h], fun j' hj' => ?_⟩
    rcases Nat.lt_or_ge j j' with h1 | h1
    · obtain rfl : j' = j + 1 := by omega
      rcases lt_or_eq_of_le (not_lt.1 h) with h2 | h2
      · exact Or.inl h2
      · exact Or.inr ⟨h2, by omega⟩
    · exact hmin j' h1

end Cert.FirstMin
-- ==== Proof.Fold.lean ====
module
public import proofs.«01_k».proof.Proof.KernelBody
public import proofs.«01_k».proof.Proof.FirstMin
public import Idealize.ShloMosaic.Lib.Pipeline.Value
public import Idealize.ShloMosaic.Lib.ValueIdx
@[expose] public section

noncomputable section

/-!
# A grid point's result is the first centroid of least score

On the extended reals: for each of the 512 rows, the kernel's word is the first index at which the row's score is least.
-/

namespace Cert.Body
open Idealize.ShloMosaic Idealize.ShloMosaic.TcCoe Idealize.SL.Sem Cert.KernelIdeal Cert.KernelIdeal.Gen
open Cert.FirstMin Idealize.ShloMosaic.ValueIdx

/-- Row `p`'s score of centroid `c`: the product plus the squared norm in the norms' chunk `c / 16`. -/
def scoreAt (d : FVec Ideal S8192x512 .f32) (L : ℕ → Vec Ideal S16x128 .f32) (p : ℕ) (c : ℕ) : EReal :=
  d (ix2 ⟨c % 8192, by omega⟩ ⟨p % 512, by omega⟩) + L (c / 16) (ix2 ⟨c % 16, by omega⟩ ⟨p % 128, by omega⟩)

theorem score_apply (d : FVec Ideal S8192x512 .f32) (L : ℕ → Vec Ideal S16x128 .f32) (t j : ℕ) (ht : t < 4) (hj : j < 512)
    (r : Fin 16) (q : Fin 128) : score d L t j (ix2 r q) = scoreAt d L (128 * t + q.val) (16 * j + r.val) := by
  have h1 : (16 * j + r.val) / 16 = j := by omega
  have h2 : ix2 (n0 := 16) (n1 := 128) ⟨(16 * j + r.val) % 16, by omega⟩ ⟨(128 * t + q.val) % 128, by omega⟩ = ix2 r q := by
    congr 1 <;> exact Fin.ext (by show _ % _ = _; omega)
  unfold score scoreAt
  rw [h1, h2]
  show extractStridedSlice S16x128 _ d _ (ix2 r q) + _ = _
  congr 1
  refine extractStridedSlice_apply _ _ _ _ _ fun a => ?_
  match a with
  | ⟨0, _⟩ => show (16 * j + r.val) % 8192 = 16 * (j % 512) + r.val; omega
  | ⟨1, _⟩ => show (128 * t + q.val) % 512 = 128 * (t % 4) + q.val; omega

/-- `select` on a float comparison `olt`, at an index. -/
theorem select_olt {s : Shape} {α : Type} (x y : FVec Ideal s .f32) (a b : s.Idx → α) (i : s.Idx) :
    select (cmpf .olt x y) a b i = if (x i : EReal) < y i then a i else b i := by
  show (if BitVec.ofBool (decide ((x i : EReal) < y i)) = 1 then a i else b i) = _
  by_cases h : (x i : EReal) < y i <;> simp [h]

/-- After chunks up to `j`: the least score so far and the chunk it was first seen in. -/
theorem sweep (d : FVec Ideal S8192x512 .f32) (L : ℕ → Vec Ideal S16x128 .f32) (t : ℕ) (ht : t < 4) (r : Fin 16) (q : Fin 128) :
    ∀ j, j < 512 → ∃ k, k ≤ j ∧ least d L t j (ix2 r q) = scoreAt d L (128 * t + q.val) (16 * k + r.val)
      ∧ chunk d L t j (ix2 r q) = BitVec.ofNat 32 k
      ∧ ∀ j', j' ≤ j → scoreAt d L (128 * t + q.val) (16 * k + r.val) < scoreAt d L (128 * t + q.val) (16 * j' + r.val)
        ∨ (scoreAt d L (128 * t + q.val) (16 * k + r.val) = scoreAt d L (128 * t + q.val) (16 * j' + r.val) ∧ k ≤ j') := by
  intro j
  induction j with
  | zero =>
    intro _
    refine ⟨0, le_rfl, score_apply d L t 0 ht (by omega) r q, rfl, fun j' hj' => Or.inr ⟨?_, Nat.zero_le _⟩⟩
    rw [Nat.le_zero.1 hj']
  | succ j ih =>
    intro hj
    obtain ⟨k, hk, hv, hc, hmin⟩ := ih (by omega)
    obtain ⟨k', hk', hv', hc', hmin'⟩ :=
      sweep_step (g := fun j => scoreAt d L (128 * t + q.val) (16 * j + r.val)) hk hmin
    refine ⟨k', hk', ?_, ?_, hmin'⟩
    · rw [← hv']
      show select (cmpf .olt (score d L t (j + 1)) (least d L t j)) (score d L t (j + 1)) (least d L t j) (ix2 r q) = _
      rw [select_olt, score_apply d L t (j + 1) ht hj r q, hv]
    · rw [← hc']
      show select (cmpf .olt (score d L t (j + 1)) (least d L t j)) (broadcast S16x128 (BitVec.ofNat 32 (j + 1))) (chunk d L t j) (ix2 r q) = _
      rw [select_olt, score_apply d L t (j + 1) ht hj r q, hv, hc]
      rfl

/-- After the sweep, a position's pair is the best over the centroids of its row. -/
theorem best_rows (d : FVec Ideal S8192x512 .f32) (L : ℕ → Vec Ideal S16x128 .f32) (t : ℕ) (ht : t < 4) (r : Fin 16) (q : Fin 128) :
    Best (scoreAt d L (128 * t + q.val)) (fun c => c < 8192 ∧ c % 16 = r.val) (least d L t 511 (ix2 r q))
      (index (chunk d L t 511) (ix2 r q)) := by
  obtain ⟨k, hk, hv, hc, hmin⟩ := sweep d L t ht r q 511 (by omega)
  refine ⟨16 * k + r.val, ⟨by omega, by omega⟩, by omega, hv, ?_, fun c' hc' => ?_⟩
  · show chunk d L t 511 (ix2 r q) * 16#32 + BitVec.ofNat 32 (0 * 16 + r.val) = _
    rw [hc]
    apply BitVec.eq_of_toNat_eq
    simp
    omega
  · have := hmin (c' / 16) (by omega)
    rw [show 16 * (c' / 16) + r.val = c' by omega] at this
    rcases this with h | ⟨h, h'⟩
    · exact Or.inl h
    · exact Or.inr ⟨h, by omega⟩

/-- The bit `before` at an index. -/
theorem before_iff {s : Shape} (v v' : FVec Ideal s .f32) (i i' : IVec s 32) (x : s.Idx) :
    before v v' i i' x = 1 ↔ (v x : EReal) < v' x ∨ ((v x : EReal) = v' x ∧ (i x).slt (i' x) = true) := by
  show (BitVec.ofBool (decide ((v x : EReal) < v' x))) ||| ((BitVec.ofBool (decide ((v x : EReal) = v' x))) &&& (BitVec.ofBool ((i x).slt (i' x)))) = 1 ↔ _
  by_cases h1 : (v x : EReal) < v' x <;> by_cases h2 : (v x : EReal) = v' x <;> cases h3 : (i x).slt (i' x) <;> simp [h1, h2]

/-- The earlier of two best pairs is the best of the union. -/
theorem best_min {s : Shape} {f : ℕ → EReal} {P Q R : ℕ → Prop} (v v' : FVec Ideal s .f32) (i i' : IVec s 32) (x : s.Idx)
    (h : Best f P (v x) (i x)) (h' : Best f Q (v' x) (i' x)) (hR : ∀ c, R c ↔ P c ∨ Q c) :
    Best f R (minV v v' i i' x) (minI v v' i i' x) :=
  h.merge h' hR (before v v' i i' x = 1) (before_iff v v' i i' x)

/-- After the halves are compared: the best over the centroids of the row modulo 8. -/
theorem best_half (f : Fin 128 → ℕ → EReal) (v : FVec Ideal S16x128 .f32) (i : IVec S16x128 32)
    (h : ∀ r q, Best (f q) (fun c => c < 8192 ∧ c % 16 = r.val) (v (ix2 r q)) (i (ix2 r q))) (r : Fin 8) (q : Fin 128) :
    Best (f q) (fun c => c < 8192 ∧ (r.val + 8 - c % 8) % 8 < 1) (halfV v i (ix2 r q)) (halfI v i (ix2 r q)) := by
  have e : ∀ {α : Type} (x : S16x128.Idx → α) (hs : S16x128.Slices ![8, 0] S8x128),
      extractStridedSlice S8x128 ![8, 0] x hs (ix2 r q) = x (ix2 ⟨r.val + 8, by omega⟩ q) := fun x hs =>
    extractStridedSlice_apply _ _ _ _ _ fun a => by
      match a with
      | ⟨0, _⟩ => show r.val + 8 = 8 + r.val; omega
      | ⟨1, _⟩ => show q.val = 0 + q.val; omega
  have e' : ∀ {α : Type} (x : S16x128.Idx → α) (hs : S16x128.Slices ![0, 0] S8x128),
      extractStridedSlice S8x128 ![0, 0] x hs (ix2 r q) = x (ix2 ⟨r.val, by omega⟩ q) := fun x hs =>
    extractStridedSlice_apply _ _ _ _ _ fun a => by
      match a with
      | ⟨0, _⟩ => show r.val = 0 + r.val; omega
      | ⟨1, _⟩ => show q.val = 0 + q.val; omega
  refine best_min _ _ _ _ _ (P := fun c => c < 8192 ∧ c % 16 = r.val + 8) (Q := fun c => c < 8192 ∧ c % 16 = r.val) ?_ ?_ ?_
  · rw [e, e]; exact h ⟨r.val + 8, by omega⟩ q
  · rw [e', e']; exact h ⟨r.val, by omega⟩ q
  · intro c; omega

/-- A rotation by `n` of the eight rows, at an index. -/
theorem rotate_apply {α : Type} (n : ℕ) (hn : n < 8) (x : S8x128.Idx → α) (r : Fin 8) (q : Fin 128) :
    dynamicRotate 0 (BitVec.ofNat 32 n) none x rotates_S8x128_d0 (ix2 r q) = x (ix2 ⟨(r.val + 8 - n) % 8, by omega⟩ q) := by
  refine congrArg x (funext fun b => ?_)
  match b with
  | ⟨0, _⟩ =>
    refine Fin.ext ?_
    show (r.val + 8 - ((BitVec.ofNat 32 n).toNat + 0) % 8) % 8 = (r.val + 8 - n) % 8
    rw [BitVec.toNat_ofNat]
    omega
  | ⟨1, _⟩ => rfl

/-- A rotation by `n` doubles the set of residues the best is taken over. -/
theorem best_roll (n : ℕ) (hn : n = 1 ∨ n = 2 ∨ n = 4) (f : Fin 128 → ℕ → EReal) (v : FVec Ideal S8x128 .f32) (i : IVec S8x128 32)
    (h : ∀ r q, Best (f q) (fun c => c < 8192 ∧ (r.val + 8 - c % 8) % 8 < n) (v (ix2 r q)) (i (ix2 r q))) (r : Fin 8) (q : Fin 128) :
    Best (f q) (fun c => c < 8192 ∧ (r.val + 8 - c % 8) % 8 < 2 * n) (rollV (BitVec.ofNat 32 n) v i (ix2 r q))
      (rollI (BitVec.ofNat 32 n) v i (ix2 r q)) := by
  refine best_min _ _ _ _ _ (P := fun c => c < 8192 ∧ ((r.val + 8 - n) % 8 + 8 - c % 8) % 8 < n)
    (Q := fun c => c < 8192 ∧ (r.val + 8 - c % 8) % 8 < n) ?_ (h r q) ?_
  · rw [rotate_apply n (by omega), rotate_apply n (by omega)]; exact h ⟨(r.val + 8 - n) % 8, by omega⟩ q
  · intro c
    rcases hn with rfl | rfl | rfl <;> omega

/-- Sixteen rows folded: the word is the first index of least value, where each row holds its own best. -/
theorem best_tile (f : Fin 128 → ℕ → EReal) (v : FVec Ideal S16x128 .f32) (i : IVec S16x128 32)
    (h : ∀ r q, Best (f q) (fun c => c < 8192 ∧ c % 16 = r.val) (v (ix2 r q)) (index i (ix2 r q))) (q : Fin 128) :
    ∃ x, Best (f q) (fun c => c < 8192) x (fold v i (ix2 0 q)) := by
  have h0 := best_half f v (index i) h
  have h1 := best_roll 1 (by omega) _ _ _ h0
  have h2 := best_roll 2 (by omega) _ _ _ h1
  have h3 := best_roll 4 (by omega) _ _ _ h2
  have e : fold v i (ix2 0 q) = rolls (halfV v (index i)) (halfI v (index i)) (ix2 0 q) :=
    extractStridedSlice_apply _ _ _ _ _ fun a => by
      match a with
      | ⟨0, _⟩ => rfl
      | ⟨1, _⟩ => show q.val = 0 + q.val; omega
  rw [e]
  exact ⟨_, ((h3 0 q).congr (fun c hc => ⟨fun h => ⟨h, by omega⟩, fun h => h.1⟩) (fun _ h => h))⟩

/-- One tile's word is the first centroid of least score. -/
theorem best_fold (d : FVec Ideal S8192x512 .f32) (L : ℕ → Vec Ideal S16x128 .f32) (t : ℕ) (ht : t < 4) (q : Fin 128) :
    ∃ v, Best (scoreAt d L (128 * t + q.val)) (fun c => c < 8192) v (fold (least d L t 511) (chunk d L t 511) (ix2 0 q)) :=
  best_tile (fun q => scoreAt d L (128 * t + q.val)) _ _ (fun r q => best_rows d L t ht r q) q

/-- The grid point's word for row `p` is the first centroid of least score. -/
theorem best_point (d : FVec Ideal S8192x512 .f32) (L : ℕ → Vec Ideal S16x128 .f32) (p : Fin 512) :
    ∃ v, Best (scoreAt d L p.val) (fun c => c < 8192) v (point d L (ix3 0 0 p)) := by
  obtain ⟨t, q, ht, hp⟩ : ∃ (t : ℕ) (q : Fin 128), t < 4 ∧ p.val = 128 * t + q.val :=
    ⟨p.val / 128, ⟨p.val % 128, by omega⟩, by omega, by show _ = _ + _ % _; omega⟩
  have e : point d L (ix3 0 0 p) = fold (least d L t 511) (chunk d L t 511) (ix2 0 q) := by
    unfold point
    refine (shapeCast_addUnit_apply _ _ _ _).trans ?_
    have hc : ∀ (k : ℕ) (x : IVec S1x128 32) (xs : List ((s : Shape) × (s.Idx → BitVec 32))) (hs : Shape.Concatenates (xs.map (·.1)) S1x512 1)
        (hk : k < xs.length) (_ : xs[k] = ⟨S1x128, x⟩)
        (_ : (((xs.take k).map (·.1)).map fun s => if h : s.rank = S1x512.rank then s.size ((1 : Fin 2).cast h.symm) else 0).sum = 128 * t),
        concatenate S1x512 1 xs hs (fun a => (ix3 (n0 := 1) (n1 := 1) 0 0 p) a.succ) = x (ix2 0 q) := by
      intro k x xs hs hk hx hpre
      refine concatenate_apply_piece (t := S1x512) 1 xs hs _ k hk S1x128 x hx rfl _ hpre (ix2 0 q) (fun b hb => ?_) hp.symm
      match b with
      | ⟨0, _⟩ => rfl
      | ⟨1, _⟩ => exact absurd rfl hb
    obtain rfl | rfl | rfl | rfl : t = 0 ∨ t = 1 ∨ t = 2 ∨ t = 3 := by omega
    · exact hc 0 _ _ _ (by simp) rfl rfl
    · exact hc 1 _ _ _ (by simp) rfl rfl
    · exact hc 2 _ _ _ (by simp) rfl rfl
    · exact hc 3 _ _ _ (by simp) rfl rfl
  rw [e, hp]
  exact best_fold d L t ht q

end Cert.Body
-- ==== Proof.Score.lean ====
/- The kernel's score and the reference's distance, read at one row and one centroid. -/
module

public import proofs.«01_k».proof.Proof.Output
public import proofs.«01_k».proof.Proof.Fold
public import proofs.«01_k».proof.Proof.RefRun
public import Idealize.ShloMosaic.Lib.Pointwise

@[expose] public section

noncomputable section

/-!
# Scores and distances at an index

Both are sums of products of the 256 entries of a row and of a centroid.
-/

namespace Cert.Score

open Idealize.ShloMosaic Idealize.ShloMosaic.TcCoe Idealize.SL.Sem

section Kernel

open Cert.KernelIdeal Cert.KernelIdeal.Gen Cert.Body

/-- The product array at centroid `c` and row `p`: the inner product of minus twice the centroid with the row. -/
theorem product_apply (X : Vec Ideal S512x256 .f32) (Y : Vec Ideal S8192x256 .f32) (c : Fin 8192) (p : Fin 512) :
    k0_pay3 X (k0_pay1 Y) (ix2 c p) = ∑ k, Y (ix2 c k) * Ideal.ofBits .f32 0xC0000000#32 * X (ix2 p k) := by
  pointwise [k0_pay3, k0_pay1]

/-- The array of squared norms at centroid `c`, the same in every column. -/
theorem norm_apply (Y : Vec Ideal S8192x256 .f32) (c : Fin 8192) (q : Fin 128) :
    k0_pay2 Y (ix2 c q) = ∑ k, Y (ix2 c k) * Y (ix2 c k) := by
  pointwise [k0_pay2]

/-- Two rank-two indices with the same coordinates are equal. -/
theorem idx2_ext {a b : ℕ} {i j : (⟨2, ![a, b]⟩ : Shape).Idx} (h0 : (i 0).val = (j 0).val) (h1 : (i 1).val = (j 1).val) : i = j := by
  funext t
  match t with
  | ⟨0, _⟩ => exact Fin.ext h0
  | ⟨1, _⟩ => exact Fin.ext h1

/-- Two rank-three indices with the same coordinates are equal. -/
theorem idx3_ext {a b d : ℕ} {i j : (⟨3, ![a, b, d]⟩ : Shape).Idx} (h0 : (i 0).val = (j 0).val) (h1 : (i 1).val = (j 1).val)
    (h2 : (i 2).val = (j 2).val) : i = j := by
  funext t
  match t with
  | ⟨0, _⟩ => exact Fin.ext h0
  | ⟨1, _⟩ => exact Fin.ext h1
  | ⟨2, _⟩ => exact Fin.ext h2

/-- The score of centroid `c` at row `p` of the block `X`. -/
theorem scoreAt_eq (X : Vec Ideal S512x256 .f32) (Y : Vec Ideal S8192x256 .f32) (p : Fin 512) (c : Fin 8192) :
    scoreAt (k0_pay3 X (k0_pay1 Y)) (norms (k0_pay2 Y)) p.val c.val
      = ∑ k, Y (ix2 c k) * Ideal.ofBits .f32 0xC0000000#32 * X (ix2 p k) + ∑ k, Y (ix2 c k) * Y (ix2 c k) := by
  have hp := p.isLt
  have hc := c.isLt
  unfold scoreAt
  refine congrArg₂ (· + ·) ?_ ?_
  · rw [← product_apply]
    exact congrArg _ (idx2_ext (Nat.mod_eq_of_lt hc) (Nat.mod_eq_of_lt hp))
  · rw [← norm_apply Y c ⟨p.val % 128, by omega⟩]
    refine congrArg (k0_pay2 Y) (idx2_ext ?_ ?_)
    · show 16 * (c.val / 16 % 512) + 1 * (c.val % 16) = c.val
      omega
    · show 0 + 1 * (p.val % 128) = p.val % 128
      omega

/-- Block `t` of the rows, read at an entry. -/
theorem rows_apply (x : FVec Ideal S16x1024x256 .f32) (b : Fin 16) (n : Fin 1024) (k : Fin 256) :
    rows x (2 * b.val + n.val / 512) (ix2 ⟨n.val % 512, by omega⟩ k) = x (ix3 b n k) := by
  have hb := b.isLt
  have hn := n.isLt
  refine congrArg x (idx3_ext ?_ ?_ rfl)
  · show (512 * ((2 * b.val + n.val / 512) % 32) + n.val % 512) / 1024 = b.val
    omega
  · show (512 * ((2 * b.val + n.val / 512) % 32) + n.val % 512) % 1024 = n.val
    omega

end Kernel

section Reference

open Cert.ReferenceIdeal Cert.ReferenceIdeal.Gen

/-- The reference's distance of row `(b, n)` to centroid `c`. -/
theorem dists_apply (x : FVec Ideal S16x1024x256 .f32) (y : FVec Ideal S8192x256 .f32) (b : Fin 16) (n : Fin 1024) (c : Fin 8192) :
    Cert.Ref.dists x y (ix3 b n c) = Ideal.sqrt (max 0
      (∑ k, x (ix3 b n k) * x (ix3 b n k) + ∑ k, y (ix2 c k) * y (ix2 c k)
        - Ideal.ofBits .f32 0x40000000#32 * ∑ k, x (ix3 b n k) * y (ix2 c k))) := by
  pointwise [Cert.Ref.dists]
  exact congrArg (fun z : EReal => Ideal.sqrt (max z _)) Ideal.ofBits_zero_f32

end Reference

end Cert.Score
-- ==== Proof.Order.lean ====
/- On real entries the kernel's score and the reference's distance order the centroids alike. -/
module

public import Idealize.ShloMosaic.PureOps.Ideal.Laws
public import Idealize.ShloMosaic.Lib.ValueIdx

@[expose] public section

noncomputable section

/-!
# Scores and distances of real vectors

`a` is a row, `b` a centroid, both of 256 reals. The score is `‖b‖² - 2 ⟨a, b⟩` and the distance is the square root of
`‖a‖² + ‖b‖² - 2 ⟨a, b⟩`, which is `‖a - b‖²` and so never negative: clipping it at zero changes nothing.
-/

namespace Cert.Order

open Idealize.ShloMosaic

variable (a b b' : Fin 256 → ℝ)

/-- A word of the constants: minus two. -/
theorem ofBits_neg_two : Ideal.ofBits .f32 0xC0000000#32 = ((-2 : ℝ) : EReal) := by
  simp [Ideal.ofBits, Ideal.ieee]
  rw [← EReal.coe_mul]
  norm_num

/-- A word of the constants: two. -/
theorem ofBits_two : Ideal.ofBits .f32 0x40000000#32 = ((2 : ℝ) : EReal) := by
  simp [Ideal.ofBits, Ideal.ieee]
  rw [← EReal.coe_mul]
  norm_num

/-- A sum of reals, taken in the extended reals, is their real sum. -/
theorem sum_coe (f : Fin 256 → ℝ) : ∑ k, ((f k : ℝ) : EReal) = ((∑ k, f k : ℝ) : EReal) := by
  induction (Finset.univ : Finset (Fin 256)) using Finset.induction_on with
  | empty => simp
  | insert i s hi ih => rw [Finset.sum_insert hi, Finset.sum_insert hi, ih, EReal.coe_add]

/-- The inner product in the extended reals of two real vectors. -/
theorem sum_mul_coe : ∑ k, (a k : EReal) * (b k : EReal) = ((∑ k, a k * b k : ℝ) : EReal) := by
  simp only [← EReal.coe_mul]
  exact sum_coe _

/-- The real score. -/
def scoreR : ℝ := ∑ k, b k * b k - 2 * ∑ k, a k * b k

/-- The real squared distance. -/
def sqR : ℝ := ∑ k, a k * a k + scoreR a b

/-- The squared distance is a sum of squares. -/
theorem sqR_nonneg : 0 ≤ sqR a b := by
  have e : sqR a b = ∑ k, (a k - b k) ^ 2 := by
    unfold sqR scoreR
    rw [Finset.mul_sum, ← Finset.sum_sub_distrib, ← Finset.sum_add_distrib]
    exact Finset.sum_congr rfl fun k _ => by ring
  rw [e]
  exact Finset.sum_nonneg fun k _ => sq_nonneg _

/-- The kernel's form of the score. -/
theorem score_coe : ∑ k, (b k : EReal) * Ideal.ofBits .f32 0xC0000000#32 * (a k : EReal) + ∑ k, (b k : EReal) * (b k : EReal)
    = ((scoreR a b : ℝ) : EReal) := by
  rw [ofBits_neg_two, sum_mul_coe]
  simp only [← EReal.coe_mul]
  rw [sum_coe, ← EReal.coe_add]
  refine congrArg _ ?_
  unfold scoreR
  rw [Finset.mul_sum, ← Finset.sum_add_distrib, ← Finset.sum_sub_distrib]
  exact Finset.sum_congr rfl fun k _ => by ring

/-- The reference's form of the distance. -/
theorem dist_coe : Ideal.sqrt (max 0
      (∑ k, (a k : EReal) * (a k : EReal) + ∑ k, (b k : EReal) * (b k : EReal)
        - Ideal.ofBits .f32 0x40000000#32 * ∑ k, (a k : EReal) * (b k : EReal)))
    = ((Real.sqrt (sqR a b) : ℝ) : EReal) := by
  rw [ofBits_two, sum_mul_coe, sum_mul_coe, sum_mul_coe, ← EReal.coe_mul, ← EReal.coe_add, ← EReal.coe_sub]
  have e : ∑ k, a k * a k + ∑ k, b k * b k - 2 * ∑ k, a k * b k = sqR a b := by
    unfold sqR scoreR
    ring
  rw [e, max_eq_right (EReal.coe_nonneg.2 (sqR_nonneg a b))]
  show (if sqR a b < 0 then ⊥ else ((Real.sqrt (sqR a b) : ℝ) : EReal)) = _
  rw [if_neg (not_lt.2 (sqR_nonneg a b))]

/-- Distances compare as scores do. -/
theorem sqrt_lt_iff : ((Real.sqrt (sqR a b) : ℝ) : EReal) < ((Real.sqrt (sqR a b') : ℝ) : EReal)
    ↔ ((scoreR a b : ℝ) : EReal) < ((scoreR a b' : ℝ) : EReal) := by
  rw [EReal.coe_lt_coe_iff, EReal.coe_lt_coe_iff, Real.sqrt_lt_sqrt_iff (sqR_nonneg a b)]
  unfold sqR
  exact add_lt_add_iff_left _

end Cert.Order
-- ==== Proof.ArgMin.lean ====
/- An arg-min reduction of the extended reals: the first index of least value. -/
module

public import proofs.«01_k».proof.Proof.RefRun
public import proofs.«01_k».proof.Proof.FirstMin
public import Idealize.ShloMosaic.PureOps.Ideal.Laws
public import Idealize.ShloMosaic.PureOps.Reduce
public import Idealize.ShloMosaic.Lib.ValueIdx

@[expose] public section

noncomputable section

/-!
# An arg-min reduction keeps the first index of least value

The arg-min reduction folds its body over the pairs (distance, index) of a row, from the pair (infinity, 0).
-/

namespace Cert.RefMin

open Cert.ReferenceIdeal Cert.ReferenceIdeal.Gen Cert.FirstMin Idealize.ShloMosaic Idealize.ShloMosaic.ValueIdx

/-- The body keeps the smaller value, and at equal values the smaller index. -/
theorem reducer_eq (a b : Ideal .f32 × BitVec 32) (c : Prop) [Decidable c] (hc : c ↔ a.1 < b.1 ∨ (a.1 = b.1 ∧ a.2.slt b.2 = true)) :
    reducer_argmin_f32_i32 a b = (if c then a.1 else b.1, if c then a.2 else b.2) := by
  have hlt : FloatOps.cmpf (F := Ideal) .olt a.1 b.1 = BitVec.ofBool (decide (a.1 < b.1)) := rfl
  have hne : FloatOps.cmpf (F := Ideal) .une a.1 a.1 = 0#1 := by simp [Ideal.cmpf_def, Ideal.cmp]
  have heq : FloatOps.cmpf (F := Ideal) .oeq a.1 b.1 = BitVec.ofBool (decide (a.1 = b.1)) := rfl
  have hs : IntOp.cmpi .slt a.2 b.2 = BitVec.ofBool (a.2.slt b.2) := rfl
  unfold reducer_argmin_f32_i32
  simp only [hlt, hne, heq, hs]
  by_cases h1 : a.1 < b.1
  · have h : c := hc.2 (Or.inl h1)
    simp [h1, h1.ne, h, Scalar.select, IntOp.ori, IntOp.andi]
  · by_cases h2 : a.1 = b.1
    · by_cases h3 : a.2.slt b.2 = true
      · have h : c := hc.2 (Or.inr ⟨h2, h3⟩)
        simp [h2, h3, h, Scalar.select, IntOp.ori, IntOp.andi]
      · have h : ¬c := fun h => (hc.1 h).elim h1 fun h => h3 h.2
        simp [h2, h3, h, Scalar.select, IntOp.ori, IntOp.andi]
    · have h : ¬c := fun h => (hc.1 h).elim h1 fun h => h2 h.1
      simp [h1, h2, h, Scalar.select, IntOp.ori, IntOp.andi]

open Classical in
/-- Folding the body over a list of pairs `(f c, c)` extends the best pair of a set by the list's indices. -/
theorem best_foldl {ι : Type} (f : ℕ → EReal) (g : ι → ℕ) (l : List ι) : ∀ (P : ℕ → Prop) (a : Ideal .f32 × BitVec 32), (∀ n ∈ l, g n < 8192) →
    Best f P a.1 a.2 →
    Best f (fun c => P c ∨ ∃ n ∈ l, g n = c) ((l.map fun n => ((f (g n), BitVec.ofNat 32 (g n)) : Ideal .f32 × BitVec 32)).foldl reducer_argmin_f32_i32 a).1
      ((l.map fun n => ((f (g n), BitVec.ofNat 32 (g n)) : Ideal .f32 × BitVec 32)).foldl reducer_argmin_f32_i32 a).2 := by
  induction l with
  | nil =>
    intro P a _ h
    have e : (fun c => P c ∨ ∃ n ∈ ([] : List ι), g n = c) = P := by funext c; simp
    rw [e]
    exact h
  | cons n l ih =>
    intro P a hg h
    have hn : Best f (fun c => c = g n) (f (g n)) (BitVec.ofNat 32 (g n)) :=
      ⟨g n, rfl, hg n (List.mem_cons_self ..), rfl, rfl, fun c' hc' => Or.inr (by rw [show c' = g n from hc']; exact ⟨rfl, le_rfl⟩)⟩
    have hm := h.merge hn (R := fun c => P c ∨ c = g n) (fun c => Iff.rfl)
      (a.1 < f (g n) ∨ (a.1 = f (g n) ∧ a.2.slt (BitVec.ofNat 32 (g n)) = true)) Iff.rfl
    have hr := reducer_eq a (f (g n), BitVec.ofNat 32 (g n)) (a.1 < f (g n) ∨ (a.1 = f (g n) ∧ a.2.slt (BitVec.ofNat 32 (g n)) = true)) Iff.rfl
    have hstep : Best f (fun c => P c ∨ c = g n) (reducer_argmin_f32_i32 a (f (g n), BitVec.ofNat 32 (g n))).1
        (reducer_argmin_f32_i32 a (f (g n), BitVec.ofNat 32 (g n))).2 := by
      rw [hr]
      exact hm
    have e : (fun c => P c ∨ ∃ m ∈ n :: l, g m = c) = fun c => (P c ∨ c = g n) ∨ ∃ m ∈ l, g m = c := by
      funext c
      simp only [List.mem_cons, exists_eq_or_imp, or_assoc, eq_comm (a := c)]
    rw [e, List.map_cons, List.foldl_cons]
    exact ih _ _ (fun m hm => hg m (List.mem_cons_of_mem _ hm)) hstep

/-- The same from the pair (infinity, 0), over a list that has an index, each value being below infinity. -/
theorem best_foldl_top {ι : Type} (f : ℕ → EReal) (g : ι → ℕ) (l : List ι) (hl : l ≠ []) (hg : ∀ n ∈ l, g n < 8192) (hf : ∀ n ∈ l, f (g n) < ⊤)
    (i : BitVec 32) :
    ∃ v, Best f (fun c => ∃ n ∈ l, g n = c) v
      ((l.map fun n => ((f (g n), BitVec.ofNat 32 (g n)) : Ideal .f32 × BitVec 32)).foldl reducer_argmin_f32_i32 ((⊤ : EReal), i)).2 := by
  classical
  match l, hl with
  | n :: l, _ =>
    have h1 := hf n (List.mem_cons_self ..)
    have hr : reducer_argmin_f32_i32 (F := Ideal) ((⊤ : EReal), i) (f (g n), BitVec.ofNat 32 (g n)) = (f (g n), BitVec.ofNat 32 (g n)) := by
      have h : ¬False := id
      refine (reducer_eq _ _ False ⟨False.elim, fun h => ?_⟩).trans ?_
      · rcases h with h | ⟨h, _⟩
        · exact not_top_lt h
        · exact absurd h h1.ne'
      · rw [if_neg h, if_neg h]
    have hn : Best f (fun c => c = g n) (f (g n)) (BitVec.ofNat 32 (g n)) :=
      ⟨g n, rfl, hg n (List.mem_cons_self ..), rfl, rfl, fun c' hc' => Or.inr (by rw [show c' = g n from hc']; exact ⟨rfl, le_rfl⟩)⟩
    have := best_foldl f g l _ (f (g n), BitVec.ofNat 32 (g n)) (fun m hm => hg m (List.mem_cons_of_mem _ hm)) hn
    have e : (fun c => ∃ m ∈ n :: l, g m = c) = fun c => c = g n ∨ ∃ m ∈ l, g m = c := by
      funext c
      simp only [List.mem_cons, exists_eq_or_imp, eq_comm (a := c)]
    rw [e, List.map_cons, List.foldl_cons, hr]
    exact ⟨_, this⟩

/-- An arg-min over the indices lying over `j`, numbered by `g` from 0 to 8191 in any order: where the values are those of `f` at the
numbers, all below infinity, the index kept is the first number `f` is least at. -/
theorem best_argReduce {s t u : Shape} {axes : List (Fin s.rank)} (h : s.ReducesTo axes t) (hu : 0 < u.numel) (j : t.Idx) (f : ℕ → EReal) (g : s.Idx → ℕ)
    (x : FVec Ideal s .f32) (y : IVec s 32) (ix : FVec Ideal u .f32) (iy : IVec u 32)
    (hx : ∀ i, h.drop i = j → x i = f (g i)) (hy : ∀ i, y i = BitVec.ofNat 32 (g i)) (hg : ∀ i, g i < 8192) (hf : ∀ c, f c < ⊤)
    (hex : ∀ c, c < 8192 → ∃ i, h.drop i = j ∧ g i = c) (hix : ∀ i, ix i = (⊤ : EReal))
    (r : IVec t 32) (hr : r = fun j => (Host.argReduce reducer_argmin_f32_i32 x y ix iy h hu j).2) : ∃ v, Best f (fun c => c < 8192) v (r j) := by
  subst hr
  have hmem : ∀ n : Fin s.numel, n ∈ ((List.finRange s.numel).filter fun n => h.drop (s.rowMajor.symm n) = j) ↔ h.drop (s.rowMajor.symm n) = j :=
    fun n => by
      rw [List.mem_filter, decide_eq_true_eq]
      exact ⟨fun h => h.2, fun h => ⟨List.mem_finRange n, h⟩⟩
  have hfib : Host.argReduceFiber x y h j = ((List.finRange s.numel).filter fun n => h.drop (s.rowMajor.symm n) = j).map
        fun n => ((f (g (s.rowMajor.symm n)), BitVec.ofNat 32 (g (s.rowMajor.symm n))) : Ideal .f32 × BitVec 32) :=
    List.map_congr_left fun n hn => Prod.ext (hx _ ((hmem n).1 hn)) (hy _)
  have hex' : ∀ c, c < 8192 → ∃ n ∈ ((List.finRange s.numel).filter fun n => h.drop (s.rowMajor.symm n) = j), g (s.rowMajor.symm n) = c := fun c hc => by
    obtain ⟨i, hi, hc⟩ := hex c hc
    exact ⟨s.rowMajor i, (hmem _).2 (by rw [Equiv.symm_apply_apply]; exact hi), by rw [Equiv.symm_apply_apply]; exact hc⟩
  obtain ⟨v, hv⟩ := best_foldl_top f (fun n : Fin s.numel => g (s.rowMajor.symm n))
    ((List.finRange s.numel).filter fun n => h.drop (s.rowMajor.symm n) = j)
    (fun h0 => by
      obtain ⟨n, hn, _⟩ := hex' 0 (by omega)
      rw [h0] at hn
      exact absurd hn List.not_mem_nil)
    (fun n _ => hg _) (fun n _ => hf _) (iy (Shape.Idx.first hu))
  refine ⟨v, ?_⟩
  show Best f _ v (Host.argReduce reducer_argmin_f32_i32 x y ix iy h hu j).2
  rw [Ideal.argReduce_eq_reduce2, Host.reduce2_eq_foldl_fiber, hfib, hix]
  exact hv.congr (R := fun c => c < 8192) (fun c hc => ⟨fun _ => hex' c hc, fun _ => hc⟩) (fun c hc => hc)

end Cert.RefMin
-- ==== Proof.RefMin.lean ====
/- The reference's arg-min: the first centroid of least distance. -/
module

public import proofs.«01_k».proof.Proof.ArgMin
public import Idealize.ShloMosaic.PureOps.Ideal.Laws
public import Idealize.ShloMosaic.PureOps.Reduce
public import Idealize.ShloMosaic.Lib.ValueIdx

@[expose] public section

noncomputable section

/-!
# The reference's result is the first centroid of least distance

The arg-min reduction folds its body over the pairs (distance, index) of a row, from the pair (infinity, 0).
-/

namespace Cert.RefMin

open Cert.ReferenceIdeal Cert.ReferenceIdeal.Gen Cert.FirstMin Idealize.ShloMosaic Idealize.ShloMosaic.ValueIdx

/-- The distances of row `j` as a function of the centroid's number. -/
def distAt (x : FVec Ideal S16x1024x256 .f32) (y : FVec Ideal S8192x256 .f32) (j : S16x1024.Idx) (c : ℕ) : EReal :=
  Cert.Ref.dists x y (ix3 (n0 := 16) (n1 := 1024) (n2 := 8192) (j 0) (j 1) ⟨c % 8192, by omega⟩)

/-- The word of infinity. -/
theorem ofBits_inf : Ideal.ofBits .f32 0x7F800000#32 = ⊤ := by simp [Ideal.ofBits, Ideal.ieee]

/-- An index of the distances lies over row `j` where its two leading coordinates are `j`. -/
theorem drop_eq (i : S16x1024x8192.Idx) (j : S16x1024.Idx) :
    reducesTo_S16x1024x8192_S16x1024_d2.drop i = j ↔ i = ix3 (n0 := 16) (n1 := 1024) (n2 := 8192) (j 0) (j 1) (i 2) := by
  have h0 : (reducesTo_S16x1024x8192_S16x1024_d2.drop i 0 : ℕ) = i 0 := Shape.ReducesTo.drop_apply_val _ i 0
  have h1 : (reducesTo_S16x1024x8192_S16x1024_d2.drop i 1 : ℕ) = i 1 := Shape.ReducesTo.drop_apply_val _ i 1
  constructor
  · rintro rfl
    funext t
    match t with
    | ⟨0, _⟩ => exact Fin.ext h0.symm
    | ⟨1, _⟩ => exact Fin.ext h1.symm
    | ⟨2, _⟩ => rfl
  · intro h
    funext t
    match t with
    | ⟨0, _⟩ => exact Fin.ext (h0.trans (congrArg Fin.val (congrFun h 0)))
    | ⟨1, _⟩ => exact Fin.ext (h1.trans (congrArg Fin.val (congrFun h 1)))

/-- The distances of row `j`, at the indices lying over it. -/
theorem dists_over (x : FVec Ideal S16x1024x256 .f32) (y : FVec Ideal S8192x256 .f32) (j : S16x1024.Idx) (i : S16x1024x8192.Idx)
    (hi : reducesTo_S16x1024x8192_S16x1024_d2.drop i = j) : Cert.Ref.dists x y i = distAt x y j (i 2).val := by
  refine congrArg (Cert.Ref.dists x y) (((drop_eq i j).1 hi).trans ?_)
  refine congrArg (ix3 (n0 := 16) (n1 := 1024) (n2 := 8192) (j 0) (j 1)) (Fin.ext ?_)
  exact (Nat.mod_eq_of_lt (i 2).isLt).symm

/-- Every number is that of an index over row `j`. -/
theorem exists_over (j : S16x1024.Idx) (c : ℕ) (hc : c < 8192) :
    ∃ i : S16x1024x8192.Idx, reducesTo_S16x1024x8192_S16x1024_d2.drop i = j ∧ (i 2).val = c :=
  ⟨ix3 (n0 := 16) (n1 := 1024) (n2 := 8192) (j 0) (j 1) ⟨c, hc⟩, (drop_eq _ j).2 rfl, rfl⟩

/-- The index array at an index. -/
theorem iota_apply (i : S16x1024x8192.Idx) : iotaInDim S16x1024x8192 32 2 i = BitVec.ofNat 32 (i 2).val := rfl

/-- The initial value. -/
theorem init_apply (i : S_.Idx) : constant (F := Ideal) S_ .f32 0x7F800000#32 i = (⊤ : EReal) := ofBits_inf

/-- The result, the arg-min reduction of the distances. -/
theorem result_eq (x : FVec Ideal S16x1024x256 .f32) (y : FVec Ideal S8192x256 .f32) : Cert.Ref.result x y = fun j =>
    (Host.argReduce reducer_argmin_f32_i32 (Cert.Ref.dists x y) (iotaInDim S16x1024x8192 32 2) (constant S_ .f32 0x7F800000#32)
      (constantI S_ 32 0#32) reducesTo_S16x1024x8192_S16x1024_d2 h_S_ j).2 := rfl

/-- Where every distance of row `j` is below infinity, the reference's result there is the first centroid of least distance. -/
theorem best_result (x : FVec Ideal S16x1024x256 .f32) (y : FVec Ideal S8192x256 .f32) (j : S16x1024.Idx)
    (hf : ∀ c, distAt x y j c < ⊤) : ∃ v, Best (distAt x y j) (fun c => c < 8192) v (Cert.Ref.result x y j) :=
  best_argReduce reducesTo_S16x1024x8192_S16x1024_d2 h_S_ j (distAt x y j) (fun i => (i 2).val) (Cert.Ref.dists x y) (iotaInDim S16x1024x8192 32 2)
    (constant S_ .f32 0x7F800000#32) (constantI S_ 32 0#32) (dists_over x y j) iota_apply (fun i => (i 2).isLt) hf (exists_over j) init_apply _ (result_eq x y)

end Cert.RefMin
-- ==== Proof.Finite.lean ====
/- What the precondition says of the entries: every one is a real. -/
module

public import proofs.«01_k».proof.Pre_finite
public import Idealize.ShloMosaic.PureOps.Ideal.Laws
public import Idealize.ShloMosaic.Lib.Pipeline.Value
public import Idealize.ShloMosaic.Lib.ValueIdx

@[expose] public section

noncomputable section

/-!
# Finite entries

The precondition lays the rows and the centroids under one another and asks of each entry that its absolute value is below infinity.
-/

namespace Cert.Finite

open Idealize.ShloMosaic Idealize.ShloMosaic.ValueIdx Cert.Pre_finite

/-- The shape relations of the precondition's operations. -/
theorem facts : Cert.Pre_finite.Facts where
  shapeCasts_S16x1024x256_S16384x256 := by decide
  concatenates_S16384x256_S8192x256_S24576x256_d0 := by decide
  bcast_S_S24576x256 := by decide

/-- An extended real whose absolute value is below infinity is a real. -/
theorem real_of_abs {v : EReal} (h : FloatOps.cmpf (F := Ideal) (φ := .f32) .olt (max v (-v)) (Ideal.ofBits .f32 0x7F800000#32) = 1#1) :
    v = (v.toReal : EReal) := by
  have hi : Ideal.ofBits .f32 0x7F800000#32 = ⊤ := by simp [Ideal.ofBits, Ideal.ieee]
  rw [hi] at h
  have h' : max v (-v) < ⊤ := by
    by_contra hn
    have e : FloatOps.cmpf (F := Ideal) (φ := .f32) .olt (max v (-v)) (⊤ : EReal) = BitVec.ofBool (decide (max v (-v) < ⊤)) := rfl
    rw [e, decide_eq_false hn] at h
    exact absurd h (by decide)
  refine (EReal.coe_toReal ?_ ?_).symm
  · rintro rfl
    exact absurd h' (by simp)
  · rintro rfl
    exact absurd h' (by simp)

variable [Cert.Pre_finite.Facts]

/-- Every entry of the rows is real. -/
theorem rows_real (x : FVec Ideal S16x1024x256 .f32) (y : FVec Ideal S8192x256 .f32) (h : Cert.Pre_finite.fn (F := Ideal) x y = fun _ => 1#1)
    (b : Fin 16) (n : Fin 1024) (k : Fin 256) : x (ix3 b n k) = ((x (ix3 b n k)).toReal : EReal) := by
  have hb := b.isLt
  have hn := n.isLt
  have h' := congrFun h (ix2 ⟨1024 * b.val + n.val, by omega⟩ k)
  have e : concatenate S24576x256 0 [⟨S16384x256, shapeCast S16384x256 x Facts.shapeCasts_S16x1024x256_S16384x256⟩, ⟨S8192x256, y⟩]
      Facts.concatenates_S16384x256_S8192x256_S24576x256_d0 (ix2 ⟨1024 * b.val + n.val, by omega⟩ k) = x (ix3 b n k) := by
    refine (concatenate_apply_piece (t := S24576x256) 0 _ _ _ 0 (by simp) S16384x256 _ rfl rfl 0 rfl
      (ix2 ⟨1024 * b.val + n.val, by omega⟩ k) (fun a ha => ?_) (by show 0 + _ = _; exact Nat.zero_add _)).trans ?_
    · match a with
      | ⟨0, _⟩ => exact absurd rfl ha
      | ⟨1, _⟩ => rfl
    · refine shapeCast_apply (s := S16x1024x256) (t := S16384x256) _ _ _ (ix3 b n k) ?_
      refine (Shape.rowMajor_val_three (d := ![16, 1024, 256]) _).trans (Eq.trans ?_ (Shape.rowMajor_val_two (d := ![16384, 256]) _).symm)
      show (b.val * 1024 + n.val) * 256 + k.val = (1024 * b.val + n.val) * 256 + k.val
      omega
  rw [← e]
  exact real_of_abs h'

/-- Every entry of the centroids is real. -/
theorem centroids_real (x : FVec Ideal S16x1024x256 .f32) (y : FVec Ideal S8192x256 .f32) (h : Cert.Pre_finite.fn (F := Ideal) x y = fun _ => 1#1)
    (c : Fin 8192) (k : Fin 256) : y (ix2 c k) = ((y (ix2 c k)).toReal : EReal) := by
  have hc := c.isLt
  have h' := congrFun h (ix2 ⟨16384 + c.val, by omega⟩ k)
  have e : concatenate S24576x256 0 [⟨S16384x256, shapeCast S16384x256 x Facts.shapeCasts_S16x1024x256_S16384x256⟩, ⟨S8192x256, y⟩]
      Facts.concatenates_S16384x256_S8192x256_S24576x256_d0 (ix2 ⟨16384 + c.val, by omega⟩ k) = y (ix2 c k) := by
    refine concatenate_apply_piece (t := S24576x256) 0 _ _ _ 1 (by simp) S8192x256 y rfl rfl 16384 rfl
      (ix2 c k) (fun a ha => ?_) rfl
    match a with
    | ⟨0, _⟩ => exact absurd rfl ha
    | ⟨1, _⟩ => rfl
  rw [← e]
  exact real_of_abs h'

end Cert.Finite
-- ==== Proof.Match.lean ====
/- The kernel's result and the reference's are the same words, whatever the finite arguments. -/
module

public import proofs.«01_k».proof.Proof.Score
public import proofs.«01_k».proof.Proof.Order
public import proofs.«01_k».proof.Proof.RefMin
public import proofs.«01_k».proof.Proof.Finite

@[expose] public section

noncomputable section

/-!
# The two results agree

Each is the first least index of a function of the centroid; on real entries the two functions order the centroids alike.
-/

namespace Cert.Match

open Idealize.ShloMosaic Cert.FirstMin Cert.KernelIdeal Cert.KernelIdeal.Gen

variable (x : FVec Ideal S16x1024x256 .f32) (y : FVec Ideal S8192x256 .f32)

/-- Row `(b, n)` as reals. -/
def row (b : Fin 16) (n : Fin 1024) (k : Fin 256) : ℝ := (x (ix3 b n k)).toReal

/-- Centroid `c` as reals. -/
def centroid (c : Fin 8192) (k : Fin 256) : ℝ := (y (ix2 c k)).toReal

variable {x y}

/-- An entry of the rows is the real `row` holds. -/
theorem row_coe [Cert.Pre_finite.Facts] (h : Cert.Pre_finite.fn (F := Ideal) x y = fun _ => 1#1) (b : Fin 16) (n : Fin 1024) (k : Fin 256) :
    x (ix3 b n k) = (row x b n k : EReal) := by
  have e : ValueIdx.ix3 b n k = ix3 b n k := Cert.Score.idx3_ext rfl rfl rfl
  have := Cert.Finite.rows_real x y h b n k
  rw [e] at this
  exact this

/-- An entry of the centroids is the real `centroid` holds. -/
theorem centroid_coe [Cert.Pre_finite.Facts] (h : Cert.Pre_finite.fn (F := Ideal) x y = fun _ => 1#1) (c : Fin 8192) (k : Fin 256) :
    y (ix2 c k) = (centroid y c k : EReal) := by
  have e : ValueIdx.ix2 c k = ix2 c k := Cert.Score.idx2_ext rfl rfl
  have := Cert.Finite.centroids_real x y h c k
  rw [e] at this
  exact this

/-- The kernel's score of centroid `c` at row `(b, n)`, on finite arguments. -/
theorem score_real [Cert.Pre_finite.Facts] (h : Cert.Pre_finite.fn (F := Ideal) x y = fun _ => 1#1) (b : Fin 16) (n : Fin 1024) (c : Fin 8192) :
    Cert.Body.scoreAt (k0_pay3 (Cert.Body.rows x (2 * b.val + n.val / 512)) (k0_pay1 (F := Ideal) y)) (Cert.Body.norms (k0_pay2 (F := Ideal) y)) (n.val % 512) c.val
      = (Cert.Order.scoreR (row x b n) (centroid y c) : EReal) := by
  refine (Cert.Score.scoreAt_eq _ y ⟨n.val % 512, by omega⟩ c).trans ?_
  simp only [Cert.Score.rows_apply, row_coe h, centroid_coe h]
  exact Cert.Order.score_coe _ _

/-- The reference's distance of centroid `c` at row `(b, n)`, on finite arguments. -/
theorem dist_real [Cert.Pre_finite.Facts] (h : Cert.Pre_finite.fn (F := Ideal) x y = fun _ => 1#1) (b : Fin 16) (n : Fin 1024) (c : Fin 8192) :
    Cert.Ref.dists x y (ix3 b n c) = (Real.sqrt (Cert.Order.sqR (row x b n) (centroid y c)) : EReal) := by
  refine (Cert.Score.dists_apply x y b n c).trans ?_
  simp only [row_coe h, centroid_coe h]
  exact Cert.Order.dist_coe _ _

/-- The distance of a number's centroid, on finite arguments. -/
theorem distAt_real [Cert.Pre_finite.Facts] (h : Cert.Pre_finite.fn (F := Ideal) x y = fun _ => 1#1) (j : S16x1024.Idx) (c : ℕ) :
    Cert.RefMin.distAt x y j c = (Real.sqrt (Cert.Order.sqR (row x (j 0) (j 1)) (centroid y ⟨c % 8192, by omega⟩)) : EReal) := by
  refine Eq.trans ?_ (dist_real h (j 0) (j 1) ⟨c % 8192, by omega⟩)
  exact congrArg (Cert.Ref.dists x y) (Cert.Score.idx3_ext rfl rfl rfl)

/-- On finite arguments the kernel's result is the reference's. -/
theorem result_eq [Cert.Pre_finite.Facts] (h : Cert.Pre_finite.fn (F := Ideal) x y = fun _ => 1#1) : Cert.Body.kresult x y = Cert.Ref.result x y := by
  funext j
  obtain ⟨v, hv⟩ := Cert.Body.best_point (k0_pay3 (Cert.Body.rows x (2 * (j 0).val + (j 1).val / 512)) (k0_pay1 (F := Ideal) y)) (Cert.Body.norms (k0_pay2 (F := Ideal) y))
    ⟨(j 1).val % 512, by omega⟩
  obtain ⟨v', hv'⟩ := Cert.RefMin.best_result x y j fun c => by
    rw [distAt_real h]
    exact EReal.coe_lt_top _
  refine hv.unique hv' fun a b ha hb => ?_
  rw [distAt_real h, distAt_real h, Cert.Order.sqrt_lt_iff]
  have ea : (⟨a % 8192, by omega⟩ : Fin 8192) = ⟨a, ha⟩ := Fin.ext (Nat.mod_eq_of_lt ha)
  have eb : (⟨b % 8192, by omega⟩ : Fin 8192) = ⟨b, hb⟩ := Fin.ext (Nat.mod_eq_of_lt hb)
  rw [ea, eb, ← score_real h (j 0) (j 1) ⟨a, ha⟩, ← score_real h (j 0) (j 1) ⟨b, hb⟩]

end Cert.Match
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Output
public import proofs.«01_k».proof.Proof.Match
public import Idealize.ShloMosaic.Adequacy
public import Idealize.ShloMosaic.Init

@[expose] public section

noncomputable section

namespace Cert.Proof

open Idealize.ShloMosaic Idealize.SL.Sem

/-- On arguments of finite entries, given alike to both, the kernel and the reference end with the same words, and with
their arguments unchanged. -/
theorem algebraic [Cert.Pre_finite.Facts] : @Cert.algebraic_KernelIdeal_ReferenceIdeal_pre_finite Cert.KernelIdeal.Gen.facts Cert.ReferenceIdeal.Gen.facts _ := by
  intro m g m' g' hpre hargs
  have hk := Cert.Body.run (F := Ideal) m g
  have hr := Cert.Ref.run (F := Ideal) m' g'
  refine ⟨fun c => Cert.Body.kresult (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run _ _ _).mono (fun r h c => ⟨(h c).1, (h c).2⟩) hk
  refine (θ_run _ _ _).mono (fun r h c => ⟨(h c).1.trans ?_, (h c).2⟩) hr
  rw [(hargs c).1, (hargs c).2]
  exact (Cert.Match.result_eq (hpre c)).symm

/-- The five claims: every run of the kernel, of its idealization and of the reference terminates with its arguments unchanged
and every semaphore at zero; the idealization is the kernel's own text; and the idealization computes what the reference does. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    fun m ρ _ => Cert.Ref.frame m ρ, fun m ρ _ => Cert.Ref.frame m ρ, trivial, @algebraic Cert.Finite.facts⟩

end Cert.Proof

end
